-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk_KernelIdeal [hPre_finite_qk_KernelIdeal : Cert.Pre_finite_qk_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk_ReferenceIdeal [hPre_finite_qk_ReferenceIdeal : Cert.Pre_finite_qk_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk_KernelIdeal [hKernelIdeal : Cert.KernelIdeal.Facts] [hPre_finite_qk_KernelIdeal : Cert.Pre_finite_qk_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk_ReferenceIdeal [hReferenceIdeal : Cert.ReferenceIdeal.Facts] [hPre_finite_qk_ReferenceIdeal : Cert.Pre_finite_qk_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_qk_KernelIdeal [hKernelIdeal : Cert.KernelIdeal.Facts] [hReferenceIdeal : Cert.ReferenceIdeal.Facts] [hPre_finite_qk_KernelIdeal : Cert.Pre_finite_qk_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨4, ![4, 4096, 8, 128]⟩ ⟨4, ![4, 8192, 8, 128]⟩ (Layout.meshBlock [2, 2, 2] ![[], [0], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![4, 4096, 8, 128]⟩ ⟨4, ![4, 8192, 8, 128]⟩ (Layout.meshBlock [2, 2, 2] ![[], [0], [], []] c) (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_qk_KernelIdeal : Cert.Pre_finite_qk_KernelIdeal.Facts) (hPre_finite_qk_ReferenceIdeal : Cert.Pre_finite_qk_ReferenceIdeal.Facts),
    quiescent_Kernel (hKernel := hKernel)
    ∧ quiescent_KernelIdeal (hKernelIdeal := hKernelIdeal)
    ∧ quiescent_KernelIdeal_pre_finite_qk_KernelIdeal (hKernelIdeal := hKernelIdeal) (hPre_finite_qk_KernelIdeal := hPre_finite_qk_KernelIdeal)
    ∧ quiescent_ReferenceIdeal (hReferenceIdeal := hReferenceIdeal)
    ∧ quiescent_ReferenceIdeal_pre_finite_qk_ReferenceIdeal (hReferenceIdeal := hReferenceIdeal) (hPre_finite_qk_ReferenceIdeal := hPre_finite_qk_ReferenceIdeal)
    ∧ preserves_Kernel_KernelIdeal
    ∧ algebraic_KernelIdeal_ReferenceIdeal_pre_finite_qk_KernelIdeal (hKernelIdeal := hKernelIdeal) (hReferenceIdeal := hReferenceIdeal) (hPre_finite_qk_KernelIdeal := hPre_finite_qk_KernelIdeal)
-- ==== Pre_finite_qk_KernelIdeal.lean ====
abbrev S4x32x8x128 : Shape := ⟨4, ![4, 32, 8, 128]⟩
abbrev S4x4096x8x128 : Shape := ⟨4, ![4, 4096, 8, 128]⟩
abbrev S_ : Shape := ⟨0, ![]⟩

class Facts : Prop where
  bcast_S_S4x32x8x128 : S_.BroadcastsInDim S4x32x8x128 (![] : Fin 0 → Fin S4x32x8x128.rank)
  reducesTo_S4x32x8x128_S_d0_1_2_3 : S4x32x8x128.ReducesTo [0, 1, 2, 3] S_
  h_S_ : 0 < S_.numel
  bcast_S_S4x4096x8x128 : S_.BroadcastsInDim S4x4096x8x128 (![] : Fin 0 → Fin S4x4096x8x128.rank)
  reducesTo_S4x4096x8x128_S_d0_1_2_3 : S4x4096x8x128.ReducesTo [0, 1, 2, 3] S_

variable [Facts]

def fn {F : FTy → Type} [FloatOps F] (main_arg0 : FVec F S4x32x8x128 .f32) (main_arg1 : FVec F S4x4096x8x128 .f32) (main_arg2 : FVec F S4x4096x8x128 .f32) : IVec S_ 1 :=
  let main_v0 : FVec F S4x32x8x128 .f32 := Host.absf main_arg0
  let main_cst : FVec F S_ .f32 := constant S_ .f32 0x7F800000#32
  let main_v1 : FVec F S4x32x8x128 .f32 := broadcastInDim S4x32x8x128 ![] bcast_S_S4x32x8x128 main_cst
  let main_v2 : IVec S4x32x8x128 1 := cmpf .olt main_v0 main_v1
  let main_c : IVec S_ 1 := constantI S_ 1 1#1
  let main_v3 : IVec S_ 1 := (fun x v => Host.reduce IntOp.andi x v reducesTo_S4x32x8x128_S_d0_1_2_3 h_S_) main_v2 main_c
  let main_v4 : FVec F S4x4096x8x128 .f32 := Host.absf main_arg1
  let main_cst_0 : FVec F S_ .f32 := constant S_ .f32 0x7F800000#32
  let main_v5 : FVec F S4x4096x8x128 .f32 := broadcastInDim S4x4096x8x128 ![] bcast_S_S4x4096x8x128 main_cst_0
  let main_v6 : IVec S4x4096x8x128 1 := cmpf .olt main_v4 main_v5
  let main_c_1 : IVec S_ 1 := constantI S_ 1 1#1
  let main_v7 : IVec S_ 1 := (fun x v => Host.reduce IntOp.andi x v reducesTo_S4x4096x8x128_S_d0_1_2_3 h_S_) main_v6 main_c_1
  let main_v8 : IVec S_ 1 := andi main_v3 main_v7
  main_v8
-- ==== Pre_finite_qk_ReferenceIdeal.lean ====
abbrev S4x32x8x128 : Shape := ⟨4, ![4, 32, 8, 128]⟩
abbrev S4x8192x8x128 : Shape := ⟨4, ![4, 8192, 8, 128]⟩
abbrev S_ : Shape := ⟨0, ![]⟩

class Facts : Prop where
  bcast_S_S4x32x8x128 : S_.BroadcastsInDim S4x32x8x128 (![] : Fin 0 → Fin S4x32x8x128.rank)
  reducesTo_S4x32x8x128_S_d0_1_2_3 : S4x32x8x128.ReducesTo [0, 1, 2, 3] S_
  h_S_ : 0 < S_.numel
  bcast_S_S4x8192x8x128 : S_.BroadcastsInDim S4x8192x8x128 (![] : Fin 0 → Fin S4x8192x8x128.rank)
  reducesTo_S4x8192x8x128_S_d0_1_2_3 : S4x8192x8x128.ReducesTo [0, 1, 2, 3] S_

variable [Facts]

def fn {F : FTy → Type} [FloatOps F] (main_arg0 : FVec F S4x32x8x128 .f32) (main_arg1 : FVec F S4x8192x8x128 .f32) (main_arg2 : FVec F S4x8192x8x128 .f32) : IVec S_ 1 :=
  let main_v0 : FVec F S4x32x8x128 .f32 := Host.absf main_arg0
  let main_cst : FVec F S_ .f32 := constant S_ .f32 0x7F800000#32
  let main_v1 : FVec F S4x32x8x128 .f32 := broadcastInDim S4x32x8x128 ![] bcast_S_S4x32x8x128 main_cst
  let main_v2 : IVec S4x32x8x128 1 := cmpf .olt main_v0 main_v1
  let main_c : IVec S_ 1 := constantI S_ 1 1#1
  let main_v3 : IVec S_ 1 := (fun x v => Host.reduce IntOp.andi x v reducesTo_S4x32x8x128_S_d0_1_2_3 h_S_) main_v2 main_c
  let main_v4 : FVec F S4x8192x8x128 .f32 := Host.absf main_arg1
  let main_cst_0 : FVec F S_ .f32 := constant S_ .f32 0x7F800000#32
  let main_v5 : FVec F S4x8192x8x128 .f32 := broadcastInDim S4x8192x8x128 ![] bcast_S_S4x8192x8x128 main_cst_0
  let main_v6 : IVec S4x8192x8x128 1 := cmpf .olt main_v4 main_v5
  let main_c_1 : IVec S_ 1 := constantI S_ 1 1#1
  let main_v7 : IVec S_ 1 := (fun x v => Host.reduce IntOp.andi x v reducesTo_S4x8192x8x128_S_d0_1_2_3 h_S_) main_v6 main_c_1
  let main_v8 : IVec S_ 1 := andi main_v3 main_v7
  main_v8
-- ==== Kernel.lean ====
abbrev S4x32x8x128 : Shape := ⟨4, ![4, 32, 8, 128]⟩
abbrev S4x4096x8x128 : Shape := ⟨4, ![4, 4096, 8, 128]⟩
abbrev S2x1024x8x128 : Shape := ⟨4, ![2, 1024, 8, 128]⟩
abbrev S4x32x8 : Shape := ⟨3, ![4, 32, 8]⟩
abbrev S4x3x32x8x128 : Shape := ⟨5, ![4, 3, 32, 8, 128]⟩
abbrev S4x3x32x8 : Shape := ⟨4, ![4, 3, 32, 8]⟩
abbrev S2x2 : Shape := ⟨2, ![2, 2]⟩
abbrev S4x3 : Shape := ⟨2, ![4, 3]⟩
abbrev S_ : Shape := ⟨0, ![]⟩
abbrev S1x1 : Shape := ⟨2, ![1, 1]⟩
abbrev S1x1024x8x128 : Shape := ⟨4, ![1, 1024, 8, 128]⟩
abbrev S1024x8x128 : Shape := ⟨3, ![1024, 8, 128]⟩
abbrev S1x32x8x128 : Shape := ⟨4, ![1, 32, 8, 128]⟩
abbrev S32x8x128 : Shape := ⟨3, ![32, 8, 128]⟩
abbrev S8x1024x128 : Shape := ⟨3, ![8, 1024, 128]⟩
abbrev S32x1x128 : Shape := ⟨3, ![32, 1, 128]⟩
abbrev S32x128 : Shape := ⟨2, ![32, 128]⟩
abbrev S1x1024x128 : Shape := ⟨3, ![1, 1024, 128]⟩
abbrev S1024x128 : Shape := ⟨2, ![1024, 128]⟩
abbrev S32x1024 : Shape := ⟨2, ![32, 1024]⟩
abbrev S32 : Shape := ⟨1, ![32]⟩
abbrev S32x1 : Shape := ⟨2, ![32, 1]⟩
abbrev S1x32x1x128 : Shape := ⟨4, ![1, 32, 1, 128]⟩
abbrev S32x8 : Shape := ⟨2, ![32, 8]⟩
abbrev S1x32x8 : Shape := ⟨3, ![1, 32, 8]⟩
abbrev S1x1x32x8x128 : Shape := ⟨5, ![1, 1, 32, 8, 128]⟩
abbrev S1x1x32x8 : Shape := ⟨4, ![1, 1, 32, 8]⟩
abbrev S32x8x1 : Shape := ⟨3, ![32, 8, 1]⟩

abbrev nBuf : Space → Nat
  | .hbm => 4
  | .vmem => 10
  | .smem => 0
  | _ => 0

abbrev bufTy : (tb : Table) → Fin (tcTables nBuf tb) → BufTy
  | .hbm, ⟨0, _⟩ => ⟨S4x32x8x128, .f32⟩
  | .hbm, ⟨1, _⟩ => ⟨S4x4096x8x128, .f32⟩
  | .hbm, ⟨2, _⟩ => ⟨S4x4096x8x128, .f32⟩
  | .hbm, ⟨3, _⟩ => ⟨S4x32x8x128, .f32⟩
  | .local _ .vmem, ⟨0, _⟩ => ⟨S4x32x8x128, .f32⟩
  | .local _ .vmem, ⟨1, _⟩ => ⟨S4x32x8x128, .f32⟩
  | .local _ .vmem, ⟨2, _⟩ => ⟨S2x1024x8x128, .f32⟩
  | .local _ .vmem, ⟨3, _⟩ => ⟨S2x1024x8x128, .f32⟩
  | .local _ .vmem, ⟨4, _⟩ => ⟨S4x32x8x128, .f32⟩
  | .local _ .vmem, ⟨5, _⟩ => ⟨S4x32x8, .f32⟩
  | .local _ .vmem, ⟨6, _⟩ => ⟨S4x3x32x8x128, .bf16⟩
  | .local _ .vmem, ⟨7, _⟩ => ⟨S4x3x32x8, .f32⟩
  | .local _ .vmem, ⟨8, _⟩ => ⟨S4x3x32x8x128, .bf16⟩
  | .local _ .vmem, ⟨9, _⟩ => ⟨S4x3x32x8, .f32⟩
  | _, _ => ⟨S4x32x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  (ofTc nBuf bufTy 1 54 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch7 : Ref sig .tc := ⟨.vmem, 9, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_8 : BitVec 32 := 4#32
  let v16 : BitVec 32 := Scalar.muli v2 c4_i32_8
  let v17 : BitVec 32 := Scalar.addi c0_i32 v16
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_9 : BitVec 32 := 2#32
  let v18 : BitVec 32 := Scalar.muli v5 c2_i32_9
  let v19 : BitVec 32 := Scalar.addi v17 v18
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_4 v8
  let c1_i32_10 : BitVec 32 := 1#32
  let v20 : BitVec 32 := Scalar.muli v12 c1_i32_10
  let v21 : BitVec 32 := Scalar.addi v19 v20
  v21.toNat
def k0_dev2 (d0 : Dev nD) : Nat :=
  let c0_i32_13 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_12 : BitVec 32 := 4#32
  let v22 : BitVec 32 := Scalar.muli v2 c4_i32_12
  let v23 : BitVec 32 := Scalar.addi c0_i32_13 v22
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_5 v5
  let c2_i32_14 : BitVec 32 := 2#32
  let v24 : BitVec 32 := Scalar.muli v13 c2_i32_14
  let v25 : BitVec 32 := Scalar.addi v23 v24
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_15 : BitVec 32 := 1#32
  let v26 : BitVec 32 := Scalar.muli v8 c1_i32_15
  let v27 : BitVec 32 := Scalar.addi v25 v26
  v27.toNat
def k0_dev3 (d0 : Dev nD) : Nat :=
  let c0_i32_18 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_6 v2
  let c4_i32_17 : BitVec 32 := 4#32
  let v28 : BitVec 32 := Scalar.muli v14 c4_i32_17
  let v29 : BitVec 32 := Scalar.addi c0_i32_18 v28
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_19 : BitVec 32 := 2#32
  let v30 : BitVec 32 := Scalar.muli v5 c2_i32_19
  let v31 : BitVec 32 := Scalar.addi v29 v30
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_20 : BitVec 32 := 1#32
  let v32 : BitVec 32 := Scalar.muli v8 c1_i32_20
  let v33 : BitVec 32 := Scalar.addi v31 v32
  v33.toNat
def k0_off1 (d0 : Dev nD) : Fin 4 → Nat :=
  let c0_i32_21 : BitVec 32 := 0#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_3 : BitVec 32 := 2#32
  let v9 : BitVec 32 := Scalar.muli v5 c2_i32_3
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c1024_i32 : BitVec 32 := 1024#32
  let v11 : BitVec 32 := Scalar.muli v10 c1024_i32
  let c0_i32_28 : BitVec 32 := 0#32
  let c0_i32_29 : BitVec 32 := 0#32
  ![0, v11.toNat, 0, 0]
def k0_off2 (d0 : Dev nD) : Fin 4 → Nat :=
  let c1_i32_39 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_3 : BitVec 32 := 2#32
  let v9 : BitVec 32 := Scalar.muli v5 c2_i32_3
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c1024_i32 : BitVec 32 := 1024#32
  let v11 : BitVec 32 := Scalar.muli v10 c1024_i32
  let c0_i32_46 : BitVec 32 := 0#32
  let c0_i32_47 : BitVec 32 := 0#32
  ![1, v11.toNat, 0, 0]
def k0_dev4 (d0 : Dev nD) : Nat :=
  let c0_i32_163 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_162 : BitVec 32 := 4#32
  let v218 : BitVec 32 := Scalar.muli v2 c4_i32_162
  let v219 : BitVec 32 := Scalar.addi c0_i32_163 v218
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_164 : BitVec 32 := 2#32
  let v220 : BitVec 32 := Scalar.muli v5 c2_i32_164
  let v221 : BitVec 32 := Scalar.addi v219 v220
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_4 v8
  let c1_i32_165 : BitVec 32 := 1#32
  let v222 : BitVec 32 := Scalar.muli v12 c1_i32_165
  let v223 : BitVec 32 := Scalar.addi v221 v222
  v223.toNat
def k0_dev5 (d0 : Dev nD) : Nat :=
  let c0_i32_181 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_180 : BitVec 32 := 4#32
  let v232 : BitVec 32 := Scalar.muli v2 c4_i32_180
  let v233 : BitVec 32 := Scalar.addi c0_i32_181 v232
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_182 : BitVec 32 := 2#32
  let v234 : BitVec 32 := Scalar.muli v5 c2_i32_182
  let v235 : BitVec 32 := Scalar.addi v233 v234
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_4 v8
  let c1_i32_183 : BitVec 32 := 1#32
  let v236 : BitVec 32 := Scalar.muli v12 c1_i32_183
  let v237 : BitVec 32 := Scalar.addi v235 v236
  v237.toNat
def k0_off3 (d0 : Dev nD) : Fin 4 → Nat :=
  let c2_i32_188 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_3 : BitVec 32 := 2#32
  let v9 : BitVec 32 := Scalar.muli v5 c2_i32_3
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c1024_i32 : BitVec 32 := 1024#32
  let v11 : BitVec 32 := Scalar.muli v10 c1024_i32
  let c0_i32_195 : BitVec 32 := 0#32
  let c0_i32_196 : BitVec 32 := 0#32
  ![2, v11.toNat, 0, 0]
def k0_dev6 (d0 : Dev nD) : Nat :=
  let c0_i32_321 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_320 : BitVec 32 := 4#32
  let v418 : BitVec 32 := Scalar.muli v2 c4_i32_320
  let v419 : BitVec 32 := Scalar.addi c0_i32_321 v418
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_322 : BitVec 32 := 2#32
  let v420 : BitVec 32 := Scalar.muli v5 c2_i32_322
  let v421 : BitVec 32 := Scalar.addi v419 v420
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_4 v8
  let c1_i32_323 : BitVec 32 := 1#32
  let v422 : BitVec 32 := Scalar.muli v12 c1_i32_323
  let v423 : BitVec 32 := Scalar.addi v421 v422
  v423.toNat
def k0_dev7 (d0 : Dev nD) : Nat :=
  let c0_i32_339 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_338 : BitVec 32 := 4#32
  let v432 : BitVec 32 := Scalar.muli v2 c4_i32_338
  let v433 : BitVec 32 := Scalar.addi c0_i32_339 v432
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_340 : BitVec 32 := 2#32
  let v434 : BitVec 32 := Scalar.muli v5 c2_i32_340
  let v435 : BitVec 32 := Scalar.addi v433 v434
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_4 v8
  let c1_i32_341 : BitVec 32 := 1#32
  let v436 : BitVec 32 := Scalar.muli v12 c1_i32_341
  let v437 : BitVec 32 := Scalar.addi v435 v436
  v437.toNat
def k0_dev8 (d0 : Dev nD) : Nat :=
  let c0_i32_428 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_427 : BitVec 32 := 4#32
  let v498 : BitVec 32 := Scalar.muli v2 c4_i32_427
  let v499 : BitVec 32 := Scalar.addi c0_i32_428 v498
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_5 v5
  let c2_i32_429 : BitVec 32 := 2#32
  let v500 : BitVec 32 := Scalar.muli v13 c2_i32_429
  let v501 : BitVec 32 := Scalar.addi v499 v500
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_430 : BitVec 32 := 1#32
  let v502 : BitVec 32 := Scalar.muli v8 c1_i32_430
  let v503 : BitVec 32 := Scalar.addi v501 v502
  v503.toNat
def k0_dev9 (d0 : Dev nD) : Nat :=
  let c0_i32_446 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_445 : BitVec 32 := 4#32
  let v512 : BitVec 32 := Scalar.muli v2 c4_i32_445
  let v513 : BitVec 32 := Scalar.addi c0_i32_446 v512
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_5 v5
  let c2_i32_447 : BitVec 32 := 2#32
  let v514 : BitVec 32 := Scalar.muli v13 c2_i32_447
  let v515 : BitVec 32 := Scalar.addi v513 v514
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_448 : BitVec 32 := 1#32
  let v516 : BitVec 32 := Scalar.muli v8 c1_i32_448
  let v517 : BitVec 32 := Scalar.addi v515 v516
  v517.toNat
def k0_off4 (d0 : Dev nD) : Fin 4 → Nat :=
  let c3_i32_453 : BitVec 32 := 3#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_3 : BitVec 32 := 2#32
  let v9 : BitVec 32 := Scalar.muli v5 c2_i32_3
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c1024_i32 : BitVec 32 := 1024#32
  let v11 : BitVec 32 := Scalar.muli v10 c1024_i32
  let c0_i32_460 : BitVec 32 := 0#32
  let c0_i32_461 : BitVec 32 := 0#32
  ![3, v11.toNat, 0, 0]
def k0_dev10 (d0 : Dev nD) : Nat :=
  let c0_i32_586 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_585 : BitVec 32 := 4#32
  let v698 : BitVec 32 := Scalar.muli v2 c4_i32_585
  let v699 : BitVec 32 := Scalar.addi c0_i32_586 v698
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_587 : BitVec 32 := 2#32
  let v700 : BitVec 32 := Scalar.muli v5 c2_i32_587
  let v701 : BitVec 32 := Scalar.addi v699 v700
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_4 v8
  let c1_i32_588 : BitVec 32 := 1#32
  let v702 : BitVec 32 := Scalar.muli v12 c1_i32_588
  let v703 : BitVec 32 := Scalar.addi v701 v702
  v703.toNat
def k0_dev11 (d0 : Dev nD) : Nat :=
  let c0_i32_604 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_603 : BitVec 32 := 4#32
  let v712 : BitVec 32 := Scalar.muli v2 c4_i32_603
  let v713 : BitVec 32 := Scalar.addi c0_i32_604 v712
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_605 : BitVec 32 := 2#32
  let v714 : BitVec 32 := Scalar.muli v5 c2_i32_605
  let v715 : BitVec 32 := Scalar.addi v713 v714
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_4 v8
  let c1_i32_606 : BitVec 32 := 1#32
  let v716 : BitVec 32 := Scalar.muli v12 c1_i32_606
  let v717 : BitVec 32 := Scalar.addi v715 v716
  v717.toNat
def k0_dev12 (d0 : Dev nD) : Nat :=
  let c0_i32_693 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_692 : BitVec 32 := 4#32
  let v778 : BitVec 32 := Scalar.muli v2 c4_i32_692
  let v779 : BitVec 32 := Scalar.addi c0_i32_693 v778
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_5 v5
  let c2_i32_694 : BitVec 32 := 2#32
  let v780 : BitVec 32 := Scalar.muli v13 c2_i32_694
  let v781 : BitVec 32 := Scalar.addi v779 v780
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_695 : BitVec 32 := 1#32
  let v782 : BitVec 32 := Scalar.muli v8 c1_i32_695
  let v783 : BitVec 32 := Scalar.addi v781 v782
  v783.toNat
def k0_dev13 (d0 : Dev nD) : Nat :=
  let c0_i32_711 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_710 : BitVec 32 := 4#32
  let v792 : BitVec 32 := Scalar.muli v2 c4_i32_710
  let v793 : BitVec 32 := Scalar.addi c0_i32_711 v792
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_5 v5
  let c2_i32_712 : BitVec 32 := 2#32
  let v794 : BitVec 32 := Scalar.muli v13 c2_i32_712
  let v795 : BitVec 32 := Scalar.addi v793 v794
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_713 : BitVec 32 := 1#32
  let v796 : BitVec 32 := Scalar.muli v8 c1_i32_713
  let v797 : BitVec 32 := Scalar.addi v795 v796
  v797.toNat
def k0_dev14 (d0 : Dev nD) : Nat :=
  let c0_i32_800 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_6 v2
  let c4_i32_799 : BitVec 32 := 4#32
  let v858 : BitVec 32 := Scalar.muli v14 c4_i32_799
  let v859 : BitVec 32 := Scalar.addi c0_i32_800 v858
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_801 : BitVec 32 := 2#32
  let v860 : BitVec 32 := Scalar.muli v5 c2_i32_801
  let v861 : BitVec 32 := Scalar.addi v859 v860
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_802 : BitVec 32 := 1#32
  let v862 : BitVec 32 := Scalar.muli v8 c1_i32_802
  let v863 : BitVec 32 := Scalar.addi v861 v862
  v863.toNat
def k0_dev15 (d0 : Dev nD) : Nat :=
  let c0_i32_818 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_6 v2
  let c4_i32_817 : BitVec 32 := 4#32
  let v872 : BitVec 32 := Scalar.muli v14 c4_i32_817
  let v873 : BitVec 32 := Scalar.addi c0_i32_818 v872
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_819 : BitVec 32 := 2#32
  let v874 : BitVec 32 := Scalar.muli v5 c2_i32_819
  let v875 : BitVec 32 := Scalar.addi v873 v874
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_820 : BitVec 32 := 1#32
  let v876 : BitVec 32 := Scalar.muli v8 c1_i32_820
  let v877 : BitVec 32 := Scalar.addi v875 v876
  v877.toNat
def k0_dev16 (d0 : Dev nD) : Nat :=
  let c0_i32_940 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_939 : BitVec 32 := 4#32
  let v1046 : BitVec 32 := Scalar.muli v2 c4_i32_939
  let v1047 : BitVec 32 := Scalar.addi c0_i32_940 v1046
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_941 : BitVec 32 := 2#32
  let v1048 : BitVec 32 := Scalar.muli v5 c2_i32_941
  let v1049 : BitVec 32 := Scalar.addi v1047 v1048
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_4 v8
  let c1_i32_942 : BitVec 32 := 1#32
  let v1050 : BitVec 32 := Scalar.muli v12 c1_i32_942
  let v1051 : BitVec 32 := Scalar.addi v1049 v1050
  v1051.toNat
def k0_dev17 (d0 : Dev nD) : Nat :=
  let c0_i32_958 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_957 : BitVec 32 := 4#32
  let v1060 : BitVec 32 := Scalar.muli v2 c4_i32_957
  let v1061 : BitVec 32 := Scalar.addi c0_i32_958 v1060
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_959 : BitVec 32 := 2#32
  let v1062 : BitVec 32 := Scalar.muli v5 c2_i32_959
  let v1063 : BitVec 32 := Scalar.addi v1061 v1062
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_4 v8
  let c1_i32_960 : BitVec 32 := 1#32
  let v1064 : BitVec 32 := Scalar.muli v12 c1_i32_960
  let v1065 : BitVec 32 := Scalar.addi v1063 v1064
  v1065.toNat
def k0_dev18 (d0 : Dev nD) : Nat :=
  let c0_i32_1047 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1046 : BitVec 32 := 4#32
  let v1126 : BitVec 32 := Scalar.muli v2 c4_i32_1046
  let v1127 : BitVec 32 := Scalar.addi c0_i32_1047 v1126
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_5 v5
  let c2_i32_1048 : BitVec 32 := 2#32
  let v1128 : BitVec 32 := Scalar.muli v13 c2_i32_1048
  let v1129 : BitVec 32 := Scalar.addi v1127 v1128
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1049 : BitVec 32 := 1#32
  let v1130 : BitVec 32 := Scalar.muli v8 c1_i32_1049
  let v1131 : BitVec 32 := Scalar.addi v1129 v1130
  v1131.toNat
def k0_dev19 (d0 : Dev nD) : Nat :=
  let c0_i32_1065 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1064 : BitVec 32 := 4#32
  let v1140 : BitVec 32 := Scalar.muli v2 c4_i32_1064
  let v1141 : BitVec 32 := Scalar.addi c0_i32_1065 v1140
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_5 v5
  let c2_i32_1066 : BitVec 32 := 2#32
  let v1142 : BitVec 32 := Scalar.muli v13 c2_i32_1066
  let v1143 : BitVec 32 := Scalar.addi v1141 v1142
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1067 : BitVec 32 := 1#32
  let v1144 : BitVec 32 := Scalar.muli v8 c1_i32_1067
  let v1145 : BitVec 32 := Scalar.addi v1143 v1144
  v1145.toNat
def k0_dev20 (d0 : Dev nD) : Nat :=
  let c0_i32_1154 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_6 v2
  let c4_i32_1153 : BitVec 32 := 4#32
  let v1206 : BitVec 32 := Scalar.muli v14 c4_i32_1153
  let v1207 : BitVec 32 := Scalar.addi c0_i32_1154 v1206
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1155 : BitVec 32 := 2#32
  let v1208 : BitVec 32 := Scalar.muli v5 c2_i32_1155
  let v1209 : BitVec 32 := Scalar.addi v1207 v1208
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1156 : BitVec 32 := 1#32
  let v1210 : BitVec 32 := Scalar.muli v8 c1_i32_1156
  let v1211 : BitVec 32 := Scalar.addi v1209 v1210
  v1211.toNat
def k0_dev21 (d0 : Dev nD) : Nat :=
  let c0_i32_1172 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_6 v2
  let c4_i32_1171 : BitVec 32 := 4#32
  let v1220 : BitVec 32 := Scalar.muli v14 c4_i32_1171
  let v1221 : BitVec 32 := Scalar.addi c0_i32_1172 v1220
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1173 : BitVec 32 := 2#32
  let v1222 : BitVec 32 := Scalar.muli v5 c2_i32_1173
  let v1223 : BitVec 32 := Scalar.addi v1221 v1222
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1174 : BitVec 32 := 1#32
  let v1224 : BitVec 32 := Scalar.muli v8 c1_i32_1174
  let v1225 : BitVec 32 := Scalar.addi v1223 v1224
  v1225.toNat
def k0_dev22 (d0 : Dev nD) : Nat :=
  let c0_i32_1329 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1328 : BitVec 32 := 4#32
  let v1337 : BitVec 32 := Scalar.muli v2 c4_i32_1328
  let v1338 : BitVec 32 := Scalar.addi c0_i32_1329 v1337
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_5 v5
  let c2_i32_1330 : BitVec 32 := 2#32
  let v1339 : BitVec 32 := Scalar.muli v13 c2_i32_1330
  let v1340 : BitVec 32 := Scalar.addi v1338 v1339
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1331 : BitVec 32 := 1#32
  let v1341 : BitVec 32 := Scalar.muli v8 c1_i32_1331
  let v1342 : BitVec 32 := Scalar.addi v1340 v1341
  v1342.toNat
def k0_dev23 (d0 : Dev nD) : Nat :=
  let c0_i32_1347 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1346 : BitVec 32 := 4#32
  let v1351 : BitVec 32 := Scalar.muli v2 c4_i32_1346
  let v1352 : BitVec 32 := Scalar.addi c0_i32_1347 v1351
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_5 v5
  let c2_i32_1348 : BitVec 32 := 2#32
  let v1353 : BitVec 32 := Scalar.muli v13 c2_i32_1348
  let v1354 : BitVec 32 := Scalar.addi v1352 v1353
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1349 : BitVec 32 := 1#32
  let v1355 : BitVec 32 := Scalar.muli v8 c1_i32_1349
  let v1356 : BitVec 32 := Scalar.addi v1354 v1355
  v1356.toNat
def k0_dev24 (d0 : Dev nD) : Nat :=
  let c0_i32_1436 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_6 v2
  let c4_i32_1435 : BitVec 32 := 4#32
  let v1417 : BitVec 32 := Scalar.muli v14 c4_i32_1435
  let v1418 : BitVec 32 := Scalar.addi c0_i32_1436 v1417
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1437 : BitVec 32 := 2#32
  let v1419 : BitVec 32 := Scalar.muli v5 c2_i32_1437
  let v1420 : BitVec 32 := Scalar.addi v1418 v1419
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1438 : BitVec 32 := 1#32
  let v1421 : BitVec 32 := Scalar.muli v8 c1_i32_1438
  let v1422 : BitVec 32 := Scalar.addi v1420 v1421
  v1422.toNat
def k0_dev25 (d0 : Dev nD) : Nat :=
  let c0_i32_1454 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_6 v2
  let c4_i32_1453 : BitVec 32 := 4#32
  let v1431 : BitVec 32 := Scalar.muli v14 c4_i32_1453
  let v1432 : BitVec 32 := Scalar.addi c0_i32_1454 v1431
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1455 : BitVec 32 := 2#32
  let v1433 : BitVec 32 := Scalar.muli v5 c2_i32_1455
  let v1434 : BitVec 32 := Scalar.addi v1432 v1433
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1456 : BitVec 32 := 1#32
  let v1435 : BitVec 32 := Scalar.muli v8 c1_i32_1456
  let v1436 : BitVec 32 := Scalar.addi v1434 v1435
  v1436.toNat
def k0_dev26 (d0 : Dev nD) : Nat :=
  let c0_i32_1611 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_6 v2
  let c4_i32_1610 : BitVec 32 := 4#32
  let v1548 : BitVec 32 := Scalar.muli v14 c4_i32_1610
  let v1549 : BitVec 32 := Scalar.addi c0_i32_1611 v1548
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1612 : BitVec 32 := 2#32
  let v1550 : BitVec 32 := Scalar.muli v5 c2_i32_1612
  let v1551 : BitVec 32 := Scalar.addi v1549 v1550
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1613 : BitVec 32 := 1#32
  let v1552 : BitVec 32 := Scalar.muli v8 c1_i32_1613
  let v1553 : BitVec 32 := Scalar.addi v1551 v1552
  v1553.toNat
def k0_dev27 (d0 : Dev nD) : Nat :=
  let c0_i32_1629 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_6 v2
  let c4_i32_1628 : BitVec 32 := 4#32
  let v1562 : BitVec 32 := Scalar.muli v14 c4_i32_1628
  let v1563 : BitVec 32 := Scalar.addi c0_i32_1629 v1562
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1630 : BitVec 32 := 2#32
  let v1564 : BitVec 32 := Scalar.muli v5 c2_i32_1630
  let v1565 : BitVec 32 := Scalar.addi v1563 v1564
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1631 : BitVec 32 := 1#32
  let v1566 : BitVec 32 := Scalar.muli v8 c1_i32_1631
  let v1567 : BitVec 32 := Scalar.addi v1565 v1566
  v1567.toNat
abbrev stage0_0 : Fin 1 → Memref sig .tc .vmem S4x32x8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x32x8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4x32x8x128 : Shape := ⟨4, ![4, 32, 8, 128]⟩
abbrev S4x8192x8x128 : Shape := ⟨4, ![4, 8192, 8, 128]⟩
abbrev S4x8x32x8192 : Shape := ⟨4, ![4, 8, 32, 8192]⟩
abbrev S_ : Shape := ⟨0, ![]⟩
abbrev S4x8x32 : Shape := ⟨3, ![4, 8, 32]⟩
abbrev S4x8x32x1 : Shape := ⟨4, ![4, 8, 32, 1]⟩
abbrev S4x8x128x32 : Shape := ⟨4, ![4, 8, 128, 32]⟩

abbrev nBuf : Space → Nat
  | .hbm => 20
  | .vmem => 0
  | .smem => 0
  | _ => 0

abbrev bufTy : (tb : Table) → Fin (tcTables nBuf tb) → BufTy
  | .hbm, ⟨0, _⟩ => ⟨S4x32x8x128, .f32⟩
  | .hbm, ⟨1, _⟩ => ⟨S4x8192x8x128, .f32⟩
  | .hbm, ⟨2, _⟩ => ⟨S4x8192x8x128, .f32⟩
  | .hbm, ⟨3, _⟩ => ⟨S4x8x32x8192, .f32⟩
  | .hbm, ⟨4, _⟩ => ⟨S_, .f32⟩
  | .hbm, ⟨5, _⟩ => ⟨S4x8x32x8192, .f32⟩
  | .hbm, ⟨6, _⟩ => ⟨S4x8x32x8192, .f32⟩
  | .hbm, ⟨7, _⟩ => ⟨S_, .f32⟩
  | .hbm, ⟨8, _⟩ => ⟨S4x8x32, .f32⟩
  | .hbm, ⟨9, _⟩ => ⟨S4x8x32x1, .f32⟩
  | .hbm, ⟨10, _⟩ => ⟨S4x8x32x8192, .f32⟩
  | .hbm, ⟨11, _⟩ => ⟨S4x8x32x8192, .f32⟩
  | .hbm, ⟨12, _⟩ => ⟨S4x8x32x8192, .f32⟩
  | .hbm, ⟨13, _⟩ => ⟨S_, .f32⟩
  | .hbm, ⟨14, _⟩ => ⟨S4x8x32, .f32⟩
  | .hbm, ⟨15, _⟩ => ⟨S4x8x32x1, .f32⟩
  | .hbm, ⟨16, _⟩ => ⟨S4x8x32x8192, .f32⟩
  | .hbm, ⟨17, _⟩ => ⟨S4x8x32x8192, .f32⟩
  | .hbm, ⟨18, _⟩ => ⟨S4x8x128x32, .f32⟩
  | .hbm, ⟨19, _⟩ => ⟨S4x32x8x128, .f32⟩
  | _, _ => ⟨S4x32x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Stages.lean ====
/-
# The kernel's body as a sequence of stages

The kernel is unrolled over four batches and three exchange rounds.  Here each piece of it that is repeated is
written once, for a batch `b`, an exchange `r` and a head `h`, and `body_eq` states that the printed body is the
sequence of these pieces.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Transfers
public import Idealize.ShloMosaic.Lib.Tactic

@[expose] public section

set_option maxRecDepth 16384
set_option synthInstance.maxSize 4096

noncomputable section

namespace Cert.KProof

open Cert.KernelIdeal Cert.KernelIdeal.Gen
open Idealize.ShloMosaic Idealize.ShloMosaic.TcCoe
open Idealize.SL Idealize.SL.Sem

variable {F : FTy → Type} [FloatOps F]

/-- Programs of a TensorCore. -/
abbrev PR (F : FTy → Type) [FloatOps F] (α : Type) : Type 1 := Prog (TpuEff nD τ sig (Elt F) Λ₀ .tc) α

/-! ## Buffers -/

abbrev qM : Memref sig .tc .vmem S4x32x8x128 .f32 := Memref.whole cc0_stg0_0
abbrev KM : Memref sig .tc .hbm S4x4096x8x128 .f32 := Memref.whole main_arg1
abbrev VM : Memref sig .tc .hbm S4x4096x8x128 .f32 := Memref.whole main_arg2
abbrev oM : Memref sig .tc .vmem S4x32x8x128 .f32 := Memref.whole cc0_stg1_0
abbrev kM : Memref sig .tc .vmem S2x1024x8x128 .f32 := Memref.whole cc0_scratch0
abbrev vM : Memref sig .tc .vmem S2x1024x8x128 .f32 := Memref.whole cc0_scratch1
abbrev aM : Memref sig .tc .vmem S4x32x8x128 .f32 := Memref.whole cc0_scratch2
abbrev lM : Memref sig .tc .vmem S4x32x8 .f32 := Memref.whole cc0_scratch3
abbrev sbM : Memref sig .tc .vmem S4x3x32x8x128 .bf16 := Memref.whole cc0_scratch4
abbrev slM : Memref sig .tc .vmem S4x3x32x8 .f32 := Memref.whole cc0_scratch5
abbrev rbM : Memref sig .tc .vmem S4x3x32x8x128 .bf16 := Memref.whole cc0_scratch6
abbrev rlM : Memref sig .tc .vmem S4x3x32x8 .f32 := Memref.whole cc0_scratch7

/-! ## Rectangles -/

theorem inbA (b : Fin 4) : ∀ a, (![b.val, 0, 0, 0] : Fin 4 → Nat) a + S1x32x8x128.size a ≤ S4x32x8x128.size a := by
  revert b; decide
theorem inbH (b : Fin 4) (h : Fin 8) : ∀ a, (![b.val, 0, h.val, 0] : Fin 4 → Nat) a + S1x32x1x128.size a ≤ S4x32x8x128.size a := by
  revert b h; decide
theorem inbL (b : Fin 4) : ∀ a, (![b.val, 0, 0] : Fin 3 → Nat) a + S1x32x8.size a ≤ S4x32x8.size a := by
  revert b; decide
theorem inbX (b : Fin 4) (r : Fin 3) : ∀ a, (![b.val, r.val, 0, 0, 0] : Fin 5 → Nat) a + S1x1x32x8x128.size a ≤ S4x3x32x8x128.size a := by
  revert b r; decide
theorem inbY (b : Fin 4) (r : Fin 3) : ∀ a, (![b.val, r.val, 0, 0] : Fin 4 → Nat) a + S1x1x32x8.size a ≤ S4x3x32x8.size a := by
  revert b r; decide
theorem inbK (s : Fin 2) : ∀ a, (![s.val, 0, 0, 0] : Fin 4 → Nat) a + S1x1024x8x128.size a ≤ S2x1024x8x128.size a := by
  revert s; decide
theorem inbS (b : Fin 4) (r : Fin 3) : ∀ a, (![b.val, r.val] : Fin 2 → Nat) a + S1x1.size a ≤ S4x3.size a := by
  revert b r; decide
theorem inbD (i s : Fin 2) : ∀ a, (![i.val, s.val] : Fin 2 → Nat) a + S1x1.size a ≤ S2x2.size a := by
  revert i s; decide

/-- The 32 x 8 x 128 block of batch `b`. -/
abbrev rA (b : Fin 4) : Rect S4x32x8x128 := Rect.unit (s := S4x32x8x128) ![b.val, 0, 0, 0] S1x32x8x128.size (inbA b)
/-- Head `h` of batch `b`. -/
abbrev rH (b : Fin 4) (h : Fin 8) : Rect S4x32x8x128 := Rect.unit (s := S4x32x8x128) ![b.val, 0, h.val, 0] S1x32x1x128.size (inbH b h)
abbrev rL (b : Fin 4) : Rect S4x32x8 := Rect.unit (s := S4x32x8) ![b.val, 0, 0] S1x32x8.size (inbL b)
/-- The slot of batch `b` and exchange `r` in a numerator buffer. -/
abbrev rX (b : Fin 4) (r : Fin 3) : Rect S4x3x32x8x128 := Rect.unit (s := S4x3x32x8x128) ![b.val, r.val, 0, 0, 0] S1x1x32x8x128.size (inbX b r)
abbrev rY (b : Fin 4) (r : Fin 3) : Rect S4x3x32x8 := Rect.unit (s := S4x3x32x8) ![b.val, r.val, 0, 0] S1x1x32x8.size (inbY b r)
abbrev rK (s : Fin 2) : Rect S2x1024x8x128 := Rect.unit (s := S2x1024x8x128) ![s.val, 0, 0, 0] S1x1024x8x128.size (inbK s)

theorem packedX (b : Fin 4) (r : Fin 3) : (rX b r).PackedRows (EltTy.packing .bf16) := by revert b r; decide
theorem wordsX (b : Fin 4) (r : Fin 3) : (rX b r).WholeWords (EltTy.packing .bf16) := by revert b r; decide

/-! ## Slots and semaphores -/

abbrev sbS (b : Fin 4) (r : Fin 3) : Memref sig .tc .vmem S32x8x128 .bf16 :=
  (sbM.slice (rX b r) (fun _ => rfl)).squeeze S32x8x128 squeezes_S1x1x32x8x128_S32x8x128
abbrev rbS (b : Fin 4) (r : Fin 3) : Memref sig .tc .vmem S32x8x128 .bf16 :=
  (rbM.slice (rX b r) (fun _ => rfl)).squeeze S32x8x128 squeezes_S1x1x32x8x128_S32x8x128
abbrev slS (b : Fin 4) (r : Fin 3) : Memref sig .tc .vmem S32x8 .f32 :=
  (slM.slice (rY b r) (fun _ => rfl)).squeeze S32x8 squeezes_S1x1x32x8_S32x8
abbrev rlS (b : Fin 4) (r : Fin 3) : Memref sig .tc .vmem S32x8 .f32 :=
  (rlM.slice (rY b r) (fun _ => rfl)).squeeze S32x8 squeezes_S1x1x32x8_S32x8
abbrev kS (s : Fin 2) : Memref sig .tc .vmem S1024x8x128 .f32 :=
  (kM.slice (rK s) (fun _ => rfl)).squeeze S1024x8x128 squeezes_S1x1024x8x128_S1024x8x128
abbrev vS (s : Fin 2) : Memref sig .tc .vmem S1024x8x128 .f32 :=
  (vM.slice (rK s) (fun _ => rfl)).squeeze S1024x8x128 squeezes_S1x1024x8x128_S1024x8x128
abbrev KS (off : Fin 4 → Nat) (ho : ∀ a, off a + S1x1024x8x128.size a ≤ S4x4096x8x128.size a) : Memref sig .tc .hbm S1024x8x128 .f32 :=
  (KM.slice (Rect.unit (s := S4x4096x8x128) off S1x1024x8x128.size ho) (fun _ => rfl)).squeeze S1024x8x128 squeezes_S1x1024x8x128_S1024x8x128
abbrev VS (off : Fin 4 → Nat) (ho : ∀ a, off a + S1x1024x8x128.size a ≤ S4x4096x8x128.size a) : Memref sig .tc .hbm S1024x8x128 .f32 :=
  (VM.slice (Rect.unit (s := S4x4096x8x128) off S1x1024x8x128.size ho) (fun _ => rfl)).squeeze S1024x8x128 squeezes_S1x1024x8x128_S1024x8x128

abbrev semAt (A : DmaSems sig S4x3) (b : Fin 4) (r : Fin 3) : DmaSem sig :=
  ((A.slice (Rect.unit (s := S4x3) ![b.val, r.val] S1x1.size (inbS b r))).squeeze S_ squeezes_S1x1_S_).sem
/-- The semaphores of the exchange: numerator sent, numerator received, denominator sent, denominator received. -/
abbrev snS (b : Fin 4) (r : Fin 3) : DmaSem sig := semAt cc0_scratch9 b r
abbrev rnS (b : Fin 4) (r : Fin 3) : DmaSem sig := semAt cc0_scratch10 b r
abbrev ssS (b : Fin 4) (r : Fin 3) : DmaSem sig := semAt cc0_scratch11 b r
abbrev rsS (b : Fin 4) (r : Fin 3) : DmaSem sig := semAt cc0_scratch12 b r
/-- The semaphores of the local copies: keys (`i = 0`) and values (`i = 1`) into slot `s`. -/
abbrev ldS (i s : Fin 2) : DmaSem sig :=
  ((cc0_scratch8.slice (Rect.unit (s := S2x2) ![i.val, s.val] S1x1.size (inbD i s))).squeeze S_ squeezes_S1x1_S_).sem
abbrev barS : Sem sig := (SemArray.scalar (sig.barrier 0 rfl) : Sems sig S_).sem

/-! ## What the stages compute -/

theorem slQ (h : Fin 8) : S32x8x128.Slices ![0, h.val, 0] S32x1x128 := by revert h; decide
theorem slT (h : Fin 8) : S8x1024x128.Slices ![h.val, 0, 0] S1x1024x128 := by revert h; decide

/-- The scaled queries. -/
def qP (v : Vec F S1x32x8x128 .f32) : FVec F S32x8x128 .bf16 :=
  truncf .bf16 (mulf (shapeCast S32x8x128 v shapeCasts_S1x32x8x128_S32x8x128) (broadcast S32x8x128 (Scalar.ofBits .f32 0x3DB504F3#32))) bitsLt_bf16_f32
/-- Keys or values with the heads first. -/
def kvP (v : Vec F S1x1024x8x128 .f32) : FVec F S8x1024x128 .bf16 :=
  transpose S8x1024x128 [1, 0, 2] (truncf .bf16 (shapeCast S1024x8x128 v shapeCasts_S1x1024x8x128_S1024x8x128) bitsLt_bf16_f32) transposes_S1024x8x128_p1_0_2_S8x1024x128
/-- The exponentials of the scores of head `h`. -/
def eP (h : Fin 8) (q : FVec F S32x8x128 .bf16) (k : FVec F S8x1024x128 .bf16) : FVec F S32x1024 .f32 :=
  exp (matmul dot_S32x128_S1024x128_S32x1024_1_1_0_0_n_n none
    (shapeCast S32x128 (extractStridedSlice S32x1x128 ![0, h.val, 0] q (slQ h)) shapeCasts_S32x1x128_S32x128)
    (shapeCast S1024x128 (extractStridedSlice S1x1024x128 ![h.val, 0, 0] k (slT h)) shapeCasts_S1x1024x128_S1024x128)
    (constant S32x1024 .f32 0x00000000#32))
/-- The denominator of head `h`. -/
def lP (h : Fin 8) (q : FVec F S32x8x128 .bf16) (k : FVec F S8x1024x128 .bf16) : FVec F S32x1 .f32 :=
  shapeCast S32x1 (multiReduction .add [1] S32 (eP h q k) 0x00000000#32 reduces_S32x1024_S32 (.inl rfl) rfl) shapeCasts_S32_S32x1
/-- The numerator of head `h`. -/
def nP (h : Fin 8) (q : FVec F S32x8x128 .bf16) (k v : FVec F S8x1024x128 .bf16) : FVec F S1x32x1x128 .f32 :=
  shapeCast S1x32x1x128 (matmul dot_S32x1024_S1024x128_S32x128_1_0_0_1_n_n none (truncf .bf16 (eP h q k) bitsLt_bf16_f32)
    (shapeCast S1024x128 (extractStridedSlice S1x1024x128 ![h.val, 0, 0] v (slT h)) shapeCasts_S1x1024x128_S1024x128)
    (constant S32x128 .f32 0x00000000#32)) shapeCasts_S32x128_S1x32x1x128
/-- The denominators of the eight heads side by side. -/
def dP (q : FVec F S32x8x128 .bf16) (k : FVec F S8x1024x128 .bf16) : FVec F S1x32x8 .f32 :=
  shapeCast S1x32x8 (concatenate S32x8 1 [⟨S32x1, lP 0 q k⟩, ⟨S32x1, lP 1 q k⟩, ⟨S32x1, lP 2 q k⟩, ⟨S32x1, lP 3 q k⟩, ⟨S32x1, lP 4 q k⟩, ⟨S32x1, lP 5 q k⟩, ⟨S32x1, lP 6 q k⟩, ⟨S32x1, lP 7 q k⟩] concatenates_S32x1_S32x1_S32x1_S32x1_S32x1_S32x1_S32x1_S32x1_S32x8_d1) shapeCasts_S32x8_S1x32x8
/-- A numerator rounded into a slot. -/
def pkN (v : Vec F S1x32x8x128 .f32) : FVec F S1x1x32x8x128 .bf16 :=
  shapeCast S1x1x32x8x128 (truncf .bf16 (shapeCast S32x8x128 v shapeCasts_S1x32x8x128_S32x8x128) bitsLt_bf16_f32) shapeCasts_S32x8x128_S1x1x32x8x128
def pkL (v : Vec F S1x32x8 .f32) : FVec F S1x1x32x8 .f32 :=
  shapeCast S1x1x32x8 (shapeCast S32x8 v shapeCasts_S1x32x8_S32x8) shapeCasts_S32x8_S1x1x32x8
/-- A numerator plus the one that arrived. -/
def adN (v : Vec F S1x32x8x128 .f32) (w : Vec F S1x1x32x8x128 .bf16) : FVec F S1x32x8x128 .f32 :=
  shapeCast S1x32x8x128 (addf (shapeCast S32x8x128 v shapeCasts_S1x32x8x128_S32x8x128)
    (extf .f32 (shapeCast S32x8x128 w shapeCasts_S1x1x32x8x128_S32x8x128) bitsLt_bf16_f32)) shapeCasts_S32x8x128_S1x32x8x128
def adL (v : Vec F S1x32x8 .f32) (w : Vec F S1x1x32x8 .f32) : FVec F S1x32x8 .f32 :=
  shapeCast S1x32x8 (addf (shapeCast S32x8 v shapeCasts_S1x32x8_S32x8) (shapeCast S32x8 w shapeCasts_S1x1x32x8_S32x8)) shapeCasts_S32x8_S1x32x8
/-- The quotient of numerator and denominator. -/
def quP (v : Vec F S1x32x8x128 .f32) (l : Vec F S1x32x8 .f32) : FVec F S1x32x8x128 .f32 :=
  shapeCast S1x32x8x128 (divf (shapeCast S32x8x128 v shapeCasts_S1x32x8x128_S32x8x128)
    (broadcastTo S32x8x128 (shapeCast S32x8x1 (shapeCast S32x8 l shapeCasts_S1x32x8_S32x8) shapeCasts_S32x8_S32x8x1) broadcasts_S32x8x1_S32x8x128)) shapeCasts_S32x8x128_S1x32x8x128

/-! ## The stages -/

/-- The barrier: a signal to each of three devices, then a wait for three signals. -/
def barrier (n : Fin 3 → Dev nD) : PR F PUnit := do
  semSignalWord (n 0 : Dev nD) barS 1#32
  semSignalWord (n 1 : Dev nD) barS 1#32
  semSignalWord (n 2 : Dev nD) barS 1#32
  semWaitWord barS 3#32

/-- Start the copies of keys and values into slot `s`. -/
def startKV (s : Fin 2) (off : Fin 4 → Nat) (ho : ∀ a, off a + S1x1024x8x128.size a ≤ S4x4096x8x128.size a) : PR F PUnit := do
  Prog.lift (.enqueueDma (KS off ho) (.here (kS s)) (.dma (ldS 0 s)) ((View.wordExact_bits rfl).reshape _ _) ((View.wordExact_bits rfl).reshape _ _) ⟨Or.inl rfl, trivial⟩)
  Prog.lift (.enqueueDma (VS off ho) (.here (vS s)) (.dma (ldS 1 s)) ((View.wordExact_bits rfl).reshape _ _) ((View.wordExact_bits rfl).reshape _ _) ⟨Or.inl rfl, trivial⟩)

/-- Wait for both copies into slot `s`. -/
def waitKV (s : Fin 2) (off : Fin 4 → Nat) (ho : ∀ a, off a + S1x1024x8x128.size a ≤ S4x4096x8x128.size a) : PR F PUnit := do
  Prog.lift (.waitDma2 (ldS 0 s) (KS off ho) (kS s) ((View.wordExact_bits rfl).reshape _ _) ((View.wordExact_bits rfl).reshape _ _))
  Prog.lift (.waitDma2 (ldS 1 s) (VS off ho) (vS s) ((View.wordExact_bits rfl).reshape _ _) ((View.wordExact_bits rfl).reshape _ _))

/-- The numerator of head `h` of batch `b` stored. -/
def head (b : Fin 4) (h : Fin 8) (p : FVec F S1x32x1x128 .f32) : PR F PUnit := do
  let _ : Vec F S1x32x1x128 .f32 ← Prog.lift (.load aM (rH b h).toLoadRect (View.loadsAt_vmem h_S1x32x1x128))
  Prog.lift (.store aM (rH b h) p Finset.univ (View.stores_vmem_bits_univ h_S1x32x1x128 rfl) (.inl rfl))

/-- The partial numerators and denominators of batch `b` from slot `s`. -/
def compute (b : Fin 4) (s : Fin 2) : PR F PUnit := do
  let q : Vec F S1x32x8x128 .f32 ← Prog.lift (.load qM (rA b).toLoadRect (View.loadsAt_vmem h_S1x32x8x128))
  let k : Vec F S1x1024x8x128 .f32 ← Prog.lift (.load kM (rK s).toLoadRect (View.loadsAt_vmem h_S1x1024x8x128))
  let v : Vec F S1x1024x8x128 .f32 ← Prog.lift (.load vM (rK s).toLoadRect (View.loadsAt_vmem h_S1x1024x8x128))
  head b 0 (nP 0 (qP q) (kvP k) (kvP v))
  head b 1 (nP 1 (qP q) (kvP k) (kvP v))
  head b 2 (nP 2 (qP q) (kvP k) (kvP v))
  head b 3 (nP 3 (qP q) (kvP k) (kvP v))
  head b 4 (nP 4 (qP q) (kvP k) (kvP v))
  head b 5 (nP 5 (qP q) (kvP k) (kvP v))
  head b 6 (nP 6 (qP q) (kvP k) (kvP v))
  head b 7 (nP 7 (qP q) (kvP k) (kvP v))
  let _ : Vec F S1x32x8 .f32 ← Prog.lift (.load lM (rL b).toLoadRect (View.loadsAt_vmem h_S1x32x8))
  Prog.lift (.store lM (rL b) (dP (qP q) (kvP k)) Finset.univ (View.stores_vmem_bits_univ h_S1x32x8 rfl) (.inl rfl))

/-- Pack batch `b`'s current sums into the slots of exchange `r`. -/
def pack (b : Fin 4) (r : Fin 3) : PR F PUnit := do
  let a : Vec F S1x32x8x128 .f32 ← Prog.lift (.load aM (rA b).toLoadRect (View.loadsAt_vmem h_S1x32x8x128))
  let _ : Vec F S1x1x32x8x128 .bf16 ← Prog.lift (.load sbM (rX b r).toLoadRect (View.loadsAt_vmem h_S1x1x32x8x128))
  Prog.lift (.store sbM (rX b r) (pkN a) Finset.univ (View.stores_vmem h_S1x1x32x8x128 ((Memref.isWhole_whole cc0_scratch4).storeExact_slice rfl _ (packedX b r)) (fun _ => rfl)) (.inl rfl))
  let l : Vec F S1x32x8 .f32 ← Prog.lift (.load lM (rL b).toLoadRect (View.loadsAt_vmem h_S1x32x8))
  let _ : Vec F S1x1x32x8 .f32 ← Prog.lift (.load slM (rY b r).toLoadRect (View.loadsAt_vmem h_S1x1x32x8))
  Prog.lift (.store slM (rY b r) (pkL l) Finset.univ (View.stores_vmem_bits_univ h_S1x1x32x8 rfl) (.inl rfl))

/-- Send the slots of exchange `r` of batch `b` to the devices `n` and `n'`. -/
def send (b : Fin 4) (r : Fin 3) (n n' : Dev nD) : PR F PUnit := do
  Prog.lift (.enqueueDma (sbS b r) (.remote (Dev.tc n) (rbS b r) (.dma (snS b r))) (.dma (rnS b r))
    (((Memref.isWhole_whole cc0_scratch4).wordExact_slice rfl _ (wordsX b r)).reshape _ _) (((Memref.isWhole_whole cc0_scratch6).wordExact_slice rfl _ (wordsX b r)).reshape _ _) ⟨⟨rfl, Or.inl rfl⟩, trivial⟩)
  Prog.lift (.enqueueDma (slS b r) (.remote (Dev.tc n') (rlS b r) (.dma (ssS b r))) (.dma (rsS b r))
    ((View.wordExact_bits rfl).reshape _ _) ((View.wordExact_bits rfl).reshape _ _) ⟨⟨rfl, Or.inl rfl⟩, trivial⟩)

/-- Wait for what exchange `r` of batch `b` brings. -/
def recv (b : Fin 4) (r : Fin 3) : PR F PUnit := do
  Prog.lift (.waitDma2 (rnS b r) (sbS b r) (rbS b r)
    (((Memref.isWhole_whole cc0_scratch4).wordExact_slice rfl _ (wordsX b r)).reshape _ _) (((Memref.isWhole_whole cc0_scratch6).wordExact_slice rfl _ (wordsX b r)).reshape _ _))
  Prog.lift (.waitDma2 (rsS b r) (slS b r) (rlS b r) ((View.wordExact_bits rfl).reshape _ _) ((View.wordExact_bits rfl).reshape _ _))

/-- Add what arrived to batch `b`'s sums. -/
def combine (b : Fin 4) (r : Fin 3) : PR F PUnit := do
  let a : Vec F S1x32x8x128 .f32 ← Prog.lift (.load aM (rA b).toLoadRect (View.loadsAt_vmem h_S1x32x8x128))
  let w : Vec F S1x1x32x8x128 .bf16 ← Prog.lift (.load rbM (rX b r).toLoadRect (View.loadsAt_vmem h_S1x1x32x8x128))
  let _ : Vec F S1x32x8x128 .f32 ← Prog.lift (.load aM (rA b).toLoadRect (View.loadsAt_vmem h_S1x32x8x128))
  Prog.lift (.store aM (rA b) (adN a w) Finset.univ (View.stores_vmem_bits_univ h_S1x32x8x128 rfl) (.inl rfl))
  let l : Vec F S1x32x8 .f32 ← Prog.lift (.load lM (rL b).toLoadRect (View.loadsAt_vmem h_S1x32x8))
  let w' : Vec F S1x1x32x8 .f32 ← Prog.lift (.load rlM (rY b r).toLoadRect (View.loadsAt_vmem h_S1x1x32x8))
  let _ : Vec F S1x32x8 .f32 ← Prog.lift (.load lM (rL b).toLoadRect (View.loadsAt_vmem h_S1x32x8))
  Prog.lift (.store lM (rL b) (adL l w') Finset.univ (View.stores_vmem_bits_univ h_S1x32x8 rfl) (.inl rfl))

/-- Batch `b`'s quotients into the result. -/
def finish (b : Fin 4) : PR F PUnit := do
  let a : Vec F S1x32x8x128 .f32 ← Prog.lift (.load aM (rA b).toLoadRect (View.loadsAt_vmem h_S1x32x8x128))
  let l : Vec F S1x32x8 .f32 ← Prog.lift (.load lM (rL b).toLoadRect (View.loadsAt_vmem h_S1x32x8))
  let _ : Vec F S1x32x8x128 .f32 ← Prog.lift (.load oM (rA b).toLoadRect (View.loadsAt_vmem h_S1x32x8x128))
  Prog.lift (.store oM (rA b) (quP a l) Finset.univ (View.stores_vmem_bits_univ h_S1x32x8x128 rfl) (.inl rfl))

/-- Wait until the sends of exchange `r` of batch `b` have left. -/
def sent (b : Fin 4) (r : Fin 3) : PR F PUnit := do
  Prog.lift (.waitDma2 (snS b r) (rbS b r) (sbS b r)
    (((Memref.isWhole_whole cc0_scratch6).wordExact_slice rfl _ (wordsX b r)).reshape _ _) (((Memref.isWhole_whole cc0_scratch4).wordExact_slice rfl _ (wordsX b r)).reshape _ _))
  Prog.lift (.waitDma2 (ssS b r) (rlS b r) (slS b r) ((View.wordExact_bits rfl).reshape _ _) ((View.wordExact_bits rfl).reshape _ _))

/-! ## The whole body -/

/-- Exchange `r` of batch `b` received and, if another follows, the next one sent. -/
def middle (b : Fin 4) (r r' : Fin 3) (n n' : Dev nD) : PR F PUnit := do
  recv b r
  combine b r
  pack b r'
  send b r' n n'
def last (b : Fin 4) : PR F PUnit := do
  recv b 2
  combine b 2
  finish b

/-- The start row of batch `b` for the device, as the program computes it. -/
def off (d : Dev nD) : Fin 4 → (Fin 4 → Nat) := ![k0_off1 d, k0_off2 d, k0_off3 d, k0_off4 d]

def body (d : Dev nD) : PR F PUnit := do
  barrier ![⟨k0_dev1 d, k0_dev1_lt d⟩, ⟨k0_dev2 d, k0_dev2_lt d⟩, ⟨k0_dev3 d, k0_dev3_lt d⟩]
  startKV 0 (k0_off1 d) (k0_off1_inb d)
  startKV 1 (k0_off2 d) (k0_off2_inb d)
  waitKV 0 (k0_off1 d) (k0_off1_inb d)
  compute 0 0
  pack 0 0
  send 0 0 ⟨k0_dev4 d, k0_dev4_lt d⟩ ⟨k0_dev5 d, k0_dev5_lt d⟩
  startKV 0 (k0_off3 d) (k0_off3_inb d)
  waitKV 1 (k0_off2 d) (k0_off2_inb d)
  compute 1 1
  pack 1 0
  send 1 0 ⟨k0_dev6 d, k0_dev6_lt d⟩ ⟨k0_dev7 d, k0_dev7_lt d⟩
  middle 0 0 1 ⟨k0_dev8 d, k0_dev8_lt d⟩ ⟨k0_dev9 d, k0_dev9_lt d⟩
  startKV 1 (k0_off4 d) (k0_off4_inb d)
  waitKV 0 (k0_off3 d) (k0_off3_inb d)
  compute 2 0
  pack 2 0
  send 2 0 ⟨k0_dev10 d, k0_dev10_lt d⟩ ⟨k0_dev11 d, k0_dev11_lt d⟩
  middle 1 0 1 ⟨k0_dev12 d, k0_dev12_lt d⟩ ⟨k0_dev13 d, k0_dev13_lt d⟩
  middle 0 1 2 ⟨k0_dev14 d, k0_dev14_lt d⟩ ⟨k0_dev15 d, k0_dev15_lt d⟩
  waitKV 1 (k0_off4 d) (k0_off4_inb d)
  compute 3 1
  pack 3 0
  send 3 0 ⟨k0_dev16 d, k0_dev16_lt d⟩ ⟨k0_dev17 d, k0_dev17_lt d⟩
  middle 2 0 1 ⟨k0_dev18 d, k0_dev18_lt d⟩ ⟨k0_dev19 d, k0_dev19_lt d⟩
  middle 1 1 2 ⟨k0_dev20 d, k0_dev20_lt d⟩ ⟨k0_dev21 d, k0_dev21_lt d⟩
  last 0
  middle 3 0 1 ⟨k0_dev22 d, k0_dev22_lt d⟩ ⟨k0_dev23 d, k0_dev23_lt d⟩
  middle 2 1 2 ⟨k0_dev24 d, k0_dev24_lt d⟩ ⟨k0_dev25 d, k0_dev25_lt d⟩
  last 1
  middle 3 1 2 ⟨k0_dev26 d, k0_dev26_lt d⟩ ⟨k0_dev27 d, k0_dev27_lt d⟩
  last 2
  last 3
  sent 0 0
  sent 1 0
  sent 0 1
  sent 2 0
  sent 1 1
  sent 0 2
  sent 3 0
  sent 2 1
  sent 1 2
  sent 3 1
  sent 2 2
  sent 3 2

abbrev printed : PR F PUnit :=
  cc0__fused_body qM (Memref.isWhole_whole _) KM (Memref.isWhole_whole _) VM (Memref.isWhole_whole _) oM (Memref.isWhole_whole _) kM (Memref.isWhole_whole _) vM (Memref.isWhole_whole _) aM (Memref.isWhole_whole _) lM (Memref.isWhole_whole _) sbM (Memref.isWhole_whole _) slM (Memref.isWhole_whole _) rbM (Memref.isWhole_whole _) rlM (Memref.isWhole_whole _) cc0_scratch8 cc0_scratch9 cc0_scratch10 cc0_scratch11 cc0_scratch12

set_option maxRecDepth 65536 in
set_option maxHeartbeats 4000000 in
theorem body_eq : printed (F := F) = (Prog.lift .deviceId >>= fun d => body d) := rfl

end Cert.KProof

end
-- ==== Proof.Protocol.lean ====
/-
# The protocol of the exchange

Eight devices exchange partial sums in three rounds; in round `r` device `c` swaps with `peer r c`.  Each exchange
of each batch has four semaphores on every device: the numerator sent, the numerator received, the denominator sent,
the denominator received.  A barrier at the start hands every device the receive slots of its three peers.
-/
module

public import proofs.«01_k».proof.Proof.Stages
public import Idealize.ShloMosaic.Lib.ValueIdxCore

@[expose] public section

set_option maxRecDepth 16384
set_option synthInstance.maxSize 4096

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The exchange's rounds beside the pipeline's; the counters serve the local copies. -/
abbrev UU : Type := UR sig nD τ × (URounds (GSem nD τ sig) (Fin 3) × Counters)

local notation "𝕄" => MT nD τ sig Unit (Elt F) ℕ UU ℕ

abbrev EP : Emb (UR sig nD τ) (MT nD τ sig Unit (Elt F) ℕ UU ℕ) := embL
abbrev ER : Emb (URounds (GSem nD τ sig) (Fin 3)) (MT nD τ sig Unit (Elt F) ℕ UU ℕ) := (Emb.inl : Emb (URounds (GSem nD τ sig) (Fin 3)) (URounds (GSem nD τ sig) (Fin 3) × Counters)).trans embR
abbrev EC : UEmb Counters (MT nD τ sig Unit (Elt F) ℕ UU ℕ) := countersEmb (U := UU)

variable (m : (ℓ : Loc nD τ sig) → Buf (Elt F) ℓ) (ρ : Dev nD → PrngReg)

def s₀ : MemSt nD τ sig (Elt F) := ⟨m, fun _ => 0, ρ⟩

/-! ## The partner of an exchange -/

/-- In round `r` a device's partner differs from it in bit `r` of its number. -/
def peer (r : Fin 3) (c : Dev nD) : Dev nD := ⟨c.val ^^^ 2 ^ r.val, by revert r c; decide⟩

theorem peer_peer (r : Fin 3) (c : Dev nD) : peer r (peer r c) = c := by revert r c; decide

def swap (r : Fin 3) : Dev nD ≃ Dev nD := ⟨peer r, peer r, peer_peer r, peer_peer r⟩

/-! ## Cells -/

/-- A semaphore of the exchange: its kind, its batch, its round. -/
abbrev XI : Type := Fin 4 × Fin 4 × Fin 3

def xsem : XI → DmaSem sig
  | (0, b, r) => snS b r
  | (1, b, r) => rnS b r
  | (2, b, r) => ssS b r
  | (3, b, r) => rsS b r

/-- The kind, batch and round of a semaphore number. -/
def xdec (q : DmaSem sig) : XI :=
  (⟨(q.val - 6) / 12 % 4, Nat.mod_lt _ (by decide)⟩, ⟨(q.val - 6) / 3 % 4, Nat.mod_lt _ (by decide)⟩, ⟨(q.val - 6) % 3, Nat.mod_lt _ (by decide)⟩)

theorem xdec_xsem (i : XI) : xdec (xsem i) = i := by revert i; decide
theorem xsem_ge (i : XI) : 6 ≤ (xsem i).val := by revert i; decide
theorem ldS_lt (i s : Fin 2) : (ldS i s).val < 6 := by revert i s; decide
theorem xsem_inj {i j : XI} (h : xsem i = xsem j) : i = j := by rw [← xdec_xsem i, h, xdec_xsem]

abbrev barC (c : Dev nD) : GSem nD τ sig := ((c : Thread nD τ), .reg barS)
abbrev xC (c : Dev nD) (i : XI) : GSem nD τ sig := ((c : Thread nD τ), .dma (xsem i))

/-- The cells of a device that the exchange uses: the barrier's and the 48 of the transfers. -/
def lsem : Option XI → SemLoc sig
  | none => .reg barS
  | some i => .dma (xsem i)
abbrev kcell (ck : Dev nD × Option XI) : GSem nD τ sig := ((ck.1 : Thread nD τ), lsem ck.2)

theorem lsem_inj : Function.Injective lsem := by
  intro a b h
  cases a <;> cases b
  · rfl
  · cases h
  · cases h
  · exact congrArg some (xsem_inj (SemLoc.dma.inj h))

theorem kcell_inj : Function.Injective kcell := by
  rintro ⟨c, k⟩ ⟨c', k'⟩ h
  have h1 : (c : Thread nD τ) = c' := congrArg Prod.fst h
  have h2 : lsem k = lsem k' := congrArg Prod.snd h
  rw [lsem_inj h2, show c = c' from congrArg Prod.fst h1]

/-- The bytes a numerator and a denominator transfer bring. -/
abbrev NN : ℕ := (rbS 0 0).view.dmaCredit
abbrev NL : ℕ := (rlS 0 0).view.dmaCredit
theorem NN_pos : 0 < NN := View.dmaCredit_pos _ (by decide)
theorem NL_pos : 0 < NL := View.dmaCredit_pos _ (by decide)
def NX (k : Fin 4) : ℕ := if k.val < 2 then NN else NL
theorem NX_pos (k : Fin 4) : 0 < NX k := by unfold NX; split; exact NN_pos; exact NL_pos

/-! ## Levels -/

def xlev (b : Fin 4) (r : Fin 3) : ℕ := 3 * (b.val + r.val) + r.val + 2
def L (g : GSem nD τ sig) : Finset Unit := if g.1.2 = .tc then {()} else ∅
def lv (g : GSem nD τ sig) (_ : Unit) : ℕ :=
  match g.2 with
  | .reg _ => 1
  | .dma q => if 6 ≤ q.val ∧ (xdec q).1.val % 2 = 1 then xlev (xdec q).2.1 (xdec q).2.2 else 0
theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (barC c) u = 1 := rfl
theorem lv_rn (c : Dev nD) (b : Fin 4) (r : Fin 3) (u : Unit) : lv (xC c (1, b, r)) u = xlev b r := by
  show (if 6 ≤ (xsem (1, b, r)).val ∧ (xdec (xsem (1, b, r))).1.val % 2 = 1 then _ else _) = _
  rw [xdec_xsem]; exact if_pos ⟨xsem_ge _, (by decide : (1 : Fin 4).val % 2 = 1)⟩
theorem lv_rs (c : Dev nD) (b : Fin 4) (r : Fin 3) (u : Unit) : lv (xC c (3, b, r)) u = xlev b r := by
  show (if 6 ≤ (xsem (3, b, r)).val ∧ (xdec (xsem (3, b, r))).1.val % 2 = 1 then _ else _) = _
  rw [xdec_xsem]; exact if_pos ⟨xsem_ge _, (by decide : (3 : Fin 4).val % 2 = 1)⟩
theorem lv_low (c : Dev nD) (q : DmaSem sig) (hq : q.val < 6) (u : Unit) : lv ((c : Thread nD τ), .dma q) u = 0 :=
  if_neg fun h => absurd h.1 (by omega)

/-! ## What a device owes -/

/-- What a send owes the partner's receive semaphores. -/
def owedX (c : Dev nD) (i : Fin 4 × Fin 3) : CellTallies nD τ sig Unit :=
  tallyAt (xC (peer i.2 c) (3, i)) () NL + tallyAt (xC (peer i.2 c) (1, i)) () NN
/-- What a list of sends owes. -/
def owedL (c : Dev nD) : List (Fin 4 × Fin 3) → CellTallies nD τ sig Unit
  | [] => 0
  | i :: l => owedL c l + owedX c i
def order : List (Fin 4 × Fin 3) := [(0,0),(1,0),(0,1),(2,0),(1,1),(0,2),(3,0),(2,1),(1,2),(3,1),(2,2),(3,2)]
def owedB (c : Dev nD) (r : Fin 3) : CellTallies nD τ sig Unit := tallyAt (barC (peer r c)) () 1
def O₀ (c : Dev nD) : CellTallies nD τ sig Unit := owedL c order + owedB c 2 + owedB c 1 + owedB c 0

theorem tally_pos {g g' : GSem nD τ sig} {u : Unit} {n : ℕ} (h : 0 < tallyAt g' () n g u) : g = g' := by
  rw [tallyAt_apply] at h
  by_contra hn
  rw [if_neg fun h' => hn h'.1] at h
  exact Nat.lt_irrefl 0 h

theorem add_pos' {O O' : CellTallies nD τ sig Unit} {g : GSem nD τ sig} {u : Unit} (h : 0 < (O + O') g u) : 0 < O g u ∨ 0 < O' g u := by
  rw [Pi.add_apply, Finsupp.add_apply] at h; omega

theorem owedX_pos {c : Dev nD} {i : Fin 4 × Fin 3} {g : GSem nD τ sig} {u : Unit} (h : 0 < owedX c i g u) :
    g = xC (peer i.2 c) (3, i) ∨ g = xC (peer i.2 c) (1, i) := (add_pos' h).imp tally_pos tally_pos

theorem owedL_pos {c : Dev nD} {g : GSem nD τ sig} {u : Unit} : ∀ {l : List (Fin 4 × Fin 3)}, 0 < owedL c l g u →
    ∃ i ∈ l, g = xC (peer i.2 c) (3, i) ∨ g = xC (peer i.2 c) (1, i)
  | [], h => absurd h (by simp [owedL])
  | i :: l, h => by
    rcases add_pos' h with h | h
    · obtain ⟨j, hj, h⟩ := owedL_pos h
      exact ⟨j, List.mem_cons_of_mem _ hj, h⟩
    · exact ⟨i, List.mem_cons_self, owedX_pos h⟩

/-- Waiting on a cell of level `n` while the sends of `l`, all of a larger level, are owed. -/
theorem mayWait_of (c : Dev nD) (sm : SemLoc sig) (n : ℕ) (l : List (Fin 4 × Fin 3)) (hn : lv ((c : Thread nD τ), sm) () ≤ n)
    (hl : ∀ i ∈ l, n < xlev i.1 i.2) : (levAts L lv : sProp 𝕄) ⊢ MayWait (c : Thread nD τ) sm () (owedL c l) :=
  MayOwe.of_cut (L := L) (lev := lv) n (fun p hp => by rw [Finset.mem_singleton.mp hp, L_tc]; exact Finset.mem_singleton_self _)
    (fun g u hg => by obtain ⟨i, -, rfl | rfl⟩ := owedL_pos hg <;> exact Finset.mem_singleton_self _)
    (fun p hp => by rw [Finset.mem_singleton.mp hp]; exact hn)
    (fun g u hg => by
      obtain ⟨⟨b, r⟩, hi, rfl | rfl⟩ := owedL_pos hg
      · rw [lv_rs]; exact hl _ hi
      · rw [lv_rn]; exact hl _ hi)

/-- The pipeline's own semaphores lie below everything. -/
theorem O₀_cell {c : Dev nD} {g : GSem nD τ sig} {u : Unit} (h : 0 < O₀ c g u) : L g = {()} ∧ 0 < lv g u := by
  have hB : ∀ r, 0 < owedB c r g u → L g = {()} ∧ 0 < lv g u := fun r h => by
    rw [tally_pos h]; exact ⟨L_tc _ _, Nat.one_pos⟩
  rcases add_pos' h with h | h
  · rcases add_pos' h with h | h
    · rcases add_pos' h with h | h
      · obtain ⟨⟨b, r⟩, -, rfl | rfl⟩ := owedL_pos h
        · exact ⟨L_tc _ _, by rw [lv_rs]; exact Nat.succ_pos _⟩
        · exact ⟨L_tc _ _, by rw [lv_rn]; exact Nat.succ_pos _⟩
      · exact hB 2 h
    · exact hB 1 h
  · exact hB 0 h

theorem mayWait_stage (c : Dev nD) (q : DmaSem sig) (hq : q.val < 6) (O : CellTallies nD τ sig Unit) (hO : O = O₀ c ∨ O = 0) :
    (levAts L lv : sProp 𝕄) ⊢ MayWait (c : Thread nD τ) (.dma q) () O := by
  rcases hO with rfl | rfl
  · exact MayOwe.of_cut (L := L) (lev := lv) 0 (fun p hp => by rw [Finset.mem_singleton.mp hp, L_tc]; exact Finset.mem_singleton_self _)
      (fun g u hg => by rw [(O₀_cell hg).1]; exact Finset.mem_singleton_self _)
      (fun p hp => by rw [Finset.mem_singleton.mp hp, lv_low c q hq])
      (fun g u hg => (O₀_cell hg).2)
  · rw [MayWait_zero]; iintro -; iempintro

/-! ## Contents -/

/-- The rows of keys or values a device reads for batch `b`, the numerators and denominators it starts from. -/
def offB (c : Dev nD) (b : Fin 4) : Fin 4 → Nat := ![b.val, 2048 * ((c.val / 2) % 2) + 1024 * (c.val % 2), 0, 0]
theorem offB_inb (c : Dev nD) (b : Fin 4) : ∀ a, offB c b a + S1x1024x8x128.size a ≤ S4x4096x8x128.size a := by
  revert c b; decide

abbrev rKV (c : Dev nD) (b : Fin 4) : Rect S4x4096x8x128 := Rect.unit (s := S4x4096x8x128) (offB c b) S1x1024x8x128.size (offB_inb c b)

def xstg (c : Dev nD) : (cc0_stg0_0 : Ref sig .tc).ty.Contents (Elt F) :=
  (win0_0.blk (0 : Fin 1)).view.read (Elt F) ((s₀ m ρ).mem ((c : Thread nD τ).loc main_arg0))

def qB (c : Dev nD) (b : Fin 4) : Vec F S1x32x8x128 .f32 := (qM.access (rA b)).read (Elt F) (xstg m ρ c)
def kB (c : Dev nD) (b : Fin 4) : Vec F S1x1024x8x128 .f32 := (KM.access (rKV c b)).read (Elt F) (m ((c : Thread nD τ).loc main_arg1))
def vB (c : Dev nD) (b : Fin 4) : Vec F S1x1024x8x128 .f32 := (VM.access (rKV c b)).read (Elt F) (m ((c : Thread nD τ).loc main_arg2))

/-- The eight heads' numerators in one block. -/
def numP (q : Vec F S1x32x8x128 .f32) (k v : Vec F S1x1024x8x128 .f32) : Vec F S1x32x8x128 .f32 :=
  fun i => nP (i 2) (qP q) (kvP k) (kvP v) (Idealize.ShloMosaic.ValueIdx.ix4 0 (i 1) 0 (i 3))

/-- The sums of batch `b` before exchange `r` (after all three for `r = 3`). -/
def AL : ℕ → Dev nD → Fin 4 → Vec F S1x32x8x128 .f32 × Vec F S1x32x8 .f32
  | 0, c, b => (numP (qB m ρ c b) (kB m c b) (vB m c b), dP (qP (qB m ρ c b)) (kvP (kB m c b)))
  | r + 1, c, b => (adN (AL r c b).1 (pkN (AL r (peer (Fin.ofNat 3 r) c) b).1), adL (AL r c b).2 (pkL (AL r (peer (Fin.ofNat 3 r) c) b).2))
def AN (r : ℕ) (c : Dev nD) (b : Fin 4) : Vec F S1x32x8x128 .f32 := (AL m ρ r c b).1
def AD (r : ℕ) (c : Dev nD) (b : Fin 4) : Vec F S1x32x8 .f32 := (AL m ρ r c b).2
theorem AN_succ (r : Fin 3) (c : Dev nD) (b : Fin 4) : AN m ρ (r.val + 1) c b = adN (AN m ρ r.val c b) (pkN (AN m ρ r.val (peer r c) b)) := by
  have h : Fin.ofNat 3 r.val = r := by revert r; decide
  show adN _ (pkN (AL m ρ r.val (peer (Fin.ofNat 3 r.val) c) b).1) = _
  rw [h]; rfl
theorem AD_succ (r : Fin 3) (c : Dev nD) (b : Fin 4) : AD m ρ (r.val + 1) c b = adL (AD m ρ r.val c b) (pkL (AD m ρ r.val (peer r c) b)) := by
  have h : Fin.ofNat 3 r.val = r := by revert r; decide
  show adL _ (pkL (AL m ρ r.val (peer (Fin.ofNat 3 r.val) c) b).2) = _
  rw [h]; rfl

/-- A device's result: batch by batch the quotient of the final sums. -/
def outAt (c : Dev nD) : (cc0_stg1_0 : Ref sig .tc).ty.Contents (Elt F) :=
  fun i => quP (AN m ρ 3 c (i 0)) (AD m ρ 3 c (i 0)) (Idealize.ShloMosaic.ValueIdx.ix4 0 (i 1) (i 2) (i 3))

/-! ## Slots held -/

/-- A slot of each exchange buffer, at named contents. -/
abbrev sbP (c : Dev nD) (b : Fin 4) (r : Fin 3) (x : Vec F S1x1x32x8x128 .bf16) : sProp 𝕄 := owns (c : Thread nD τ) (sbM.slice (rX b r) (fun _ => rfl)) fullShare x
abbrev rbP (c : Dev nD) (b : Fin 4) (r : Fin 3) (x : Vec F S1x1x32x8x128 .bf16) : sProp 𝕄 := owns (c : Thread nD τ) (rbM.slice (rX b r) (fun _ => rfl)) fullShare x
abbrev slP (c : Dev nD) (b : Fin 4) (r : Fin 3) (x : Vec F S1x1x32x8 .f32) : sProp 𝕄 := owns (c : Thread nD τ) (slM.slice (rY b r) (fun _ => rfl)) fullShare x
abbrev rlP (c : Dev nD) (b : Fin 4) (r : Fin 3) (x : Vec F S1x1x32x8 .f32) : sProp 𝕄 := owns (c : Thread nD τ) (rlM.slice (rY b r) (fun _ => rfl)) fullShare x

/-- The receive slots of exchange `r` of batch `b` at any contents. -/
def slots (c : Dev nD) (b : Fin 4) (r : Fin 3) : sProp 𝕄 := iprop((∃ x, rbP c b r x) ∗ ∃ x, rlP c b r x)
/-- The send slots at any contents. -/
def sslots (c : Dev nD) (b : Fin 4) (r : Fin 3) : sProp 𝕄 := iprop((∃ x, sbP c b r x) ∗ ∃ x, slP c b r x)

/-! ## The schedule -/

/-- What the signal of `peer r c` hands `c`: its receive slots of round `r`. -/
def barPay (c : Dev nD) (r : Fin 3) : sProp 𝕄 := bigSep Finset.univ fun b => slots (peer r c) b r
def xPay (c : Dev nD) : XI → sProp 𝕄
  | (0, b, r) => iprop(∃ x, sbP c b r x)
  | (1, b, r) => rbP c b r (pkN (AN m ρ r.val (peer r c) b))
  | (2, b, r) => iprop(∃ x, slP c b r x)
  | (3, b, r) => rlP c b r (pkL (AD m ρ r.val (peer r c) b))

instance barPay_storable (c : Dev nD) (r : Fin 3) : BI.Storable (upEmb : UEmb _ 𝕄) (barPay (F := F) c r) := by
  unfold barPay slots; infer_instance
instance xPay_storable (c : Dev nD) (i : XI) : BI.Storable (upEmb : UEmb _ 𝕄) (xPay (F := F) m ρ c i) := by
  obtain ⟨k, b, r⟩ := i
  match k with
  | 0 => show BI.Storable upEmb (iprop(∃ x, sbP c b r x) : sProp 𝕄); infer_instance
  | 1 => show BI.Storable upEmb (rbP c b r (pkN (AN m ρ r.val (peer r c) b)) : sProp 𝕄); infer_instance
  | 2 => show BI.Storable upEmb (iprop(∃ x, slP c b r x) : sProp 𝕄); infer_instance
  | 3 => show BI.Storable upEmb (rlP c b r (pkL (AD m ρ r.val (peer r c) b)) : sProp 𝕄); infer_instance

def Rd : Rounds.Schedule (GSem nD τ sig) (Fin 3) 𝕄 where
  duties g r := if r = 0 ∧ g.1.2 = .tc then
      match g.2 with
      | .reg _ => Finset.univ
      | .dma q => if 6 ≤ q.val then {0} else ∅
    else ∅
  unitless _ := False
  amount g _ _ := match g.2 with
    | .reg _ => 1
    | .dma q => NX (xdec q).1
  payload g _ d := match g.2 with
    | .reg _ => barPay g.1.1 d
    | .dma q => xPay m ρ g.1.1 (xdec q)
  amount_pos g _ _ _ := by
    split
    · exact Nat.one_pos
    · exact NX_pos _

instance Rd_payload_storable (g : GSem nD τ sig) (r : ℕ) (d : Fin 3) : BI.Storable (upEmb : UEmb _ 𝕄) ((Rd (F := F) m ρ).payload g r d) := by
  dsimp only [Rd]
  split <;> infer_instance

theorem duties_bar (c : Dev nD) : (Rd (F := F) m ρ).duties (barC c) 0 = Finset.univ := by dsimp only [Rd]; exact if_pos ⟨rfl, rfl⟩
theorem duties_x (c : Dev nD) (i : XI) : (Rd (F := F) m ρ).duties (xC c i) 0 = {0} := by
  dsimp only [Rd]; rw [if_pos ⟨rfl, rfl⟩, if_pos (xsem_ge i)]
theorem duties_later (g : GSem nD τ sig) : ∀ r, 1 ≤ r → (Rd (F := F) m ρ).duties g r = ∅ :=
  fun r hr => by dsimp only [Rd]; exact if_neg fun h => by omega
theorem amount_bar (c : Dev nD) (d : Fin 3) : (Rd (F := F) m ρ).amount (barC c) 0 d = 1 := rfl
theorem amount_x (c : Dev nD) (i : XI) (d : Fin 3) : (Rd (F := F) m ρ).amount (xC c i) 0 d = NX i.1 := by
  dsimp only [Rd]; rw [xdec_xsem]
theorem payload_bar (c : Dev nD) (d : Fin 3) : (Rd (F := F) m ρ).payload (barC c) 0 d = barPay c d := rfl
theorem payload_x (c : Dev nD) (i : XI) (d : Fin 3) : (Rd (F := F) m ρ).payload (xC c i) 0 d = xPay m ρ c i := by
  dsimp only [Rd]; rw [xdec_xsem]
theorem expect_bar (c : Dev nD) : (Rd (F := F) m ρ).expect (barC c) 0 = 3 := by
  unfold Schedule.expect Schedule.amountOf
  rw [duties_bar, Finset.sum_congr rfl (fun d _ => amount_bar m ρ c d)]; rfl
theorem expect_x (c : Dev nD) (i : XI) : (Rd (F := F) m ρ).expect (xC c i) 0 = NX i.1 := by
  unfold Schedule.expect Schedule.amountOf; rw [duties_x, Finset.sum_singleton, amount_x]
theorem rest_x (c : Dev nD) (i : XI) :
    bigSep ((Rd (F := F) m ρ).duties (xC c i) 0 \ ∅) (fun d => (Rd (F := F) m ρ).payload (xC c i) 0 d) = xPay m ρ c i := by
  rw [Finset.sdiff_empty, duties_x, bigSep_singleton, payload_x]
theorem rest_bar (c : Dev nD) :
    bigSep ((Rd (F := F) m ρ).duties (barC c) 0 \ ∅) (fun d => (Rd (F := F) m ρ).payload (barC c) 0 d) = bigSep Finset.univ (barPay (F := F) c) := by
  rw [Finset.sdiff_empty, duties_bar]; rfl

/-! ## What every device knows: each cell of the exchange is under its invariant and has reached its round. -/

variable (K : Dev nD × Option XI → ℕ)

def records : sProp 𝕄 :=
  bigSep Finset.univ fun ck => iprop(cellInv ER (Rd m ρ) (K ck) (kcell ck) ∗ reached ER (kcell ck) 0)

instance records_persistent : BI.Persistent (records m ρ K) := by unfold records; infer_instance

theorem record_at (ck : Dev nD × Option XI) :
    records m ρ K ⊢ iprop(cellInv ER (Rd m ρ) (K ck) (kcell ck) ∗ reached ER (kcell ck) 0) := by
  unfold records; exact bigSep_elim (Finset.mem_univ ck)

end Cert.KProof

end
-- ==== Proof.Slots.lean ====
/-
# Slots of buffers

Loads and stores through a slice of a buffer that is held at named contents, a transfer between two such slices seen
through their squeezed forms, and the cuts of the exchange buffers into their slots.
-/
module

public import proofs.«01_k».proof.Proof.Protocol
public import Idealize.ShloMosaic.Lib.ViewIndex

@[expose] public section

set_option maxRecDepth 16384
set_option synthInstance.maxSize 4096

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- A program's weakest precondition on device `c`. -/
abbrev WP (c : Dev nD) {α : Type} (p : PR F α) (Q : α → sProp 𝕄) : sProp 𝕄 :=
  wp frame (wpE (defs₀ (F := F)) 𝒱₀ (c : Thread nD τ) none) Set.univ p Q

section Access

variable {s : Shape} {e : EltTy} {cs : CoreSpace} (c : Dev nD) (m : Memref sig .tc cs s e) (r : Rect s) (hr : ∀ a, r.stride a = 1)

/-- A load of a slice held at `x` brings `x`. -/
theorem wp_load_owns {hl : m.view.LoadsAt r.toLoadRect} {α : Type} {k : (r.shape.Idx → Elt F e) → PR F α} {Q : α → sProp 𝕄}
    {q : PosShare TreeShare} (x : r.shape.Idx → Elt F e) :
    (owns (c : Thread nD τ) (m.slice r hr) q x : sProp 𝕄)
      ⊢ iprop((owns (c : Thread nD τ) (m.slice r hr) q x -∗ WP c (k x) Q) -∗ WP c (.op (.load m r.toLoadRect hl) k) Q) := by
  unfold owns
  iintro ⟨%f, %hf, H⟩ Hk
  iapply (wp_load_rect 𝒱₀ (c : Thread nD τ) none Set.univ (m := m) (r := r) (Finset.Subset.refl _)) $$ H
  iintro H
  have e : (m.access r).read (Elt F) f = x := hf
  rw [e]
  iapply Hk
  iexists f
  isplitr
  · ipureintro; exact hf
  iexact H

/-- A whole store into a slice held at any contents leaves it at what was stored. -/
theorem wp_store_owns {Mk : Finset r.shape.Idx} (hMk : Mk = Finset.univ) {w : r.shape.Idx → Elt F e} {hx : (m.access r).Stores Mk}
    {hm : Mk = Finset.univ ∨ ∀ a, r.stride a = 1} {α : Type} {k : PUnit → PR F α} {Q : α → sProp 𝕄} (x : r.shape.Idx → Elt F e) :
    (owns (c : Thread nD τ) (m.slice r hr) fullShare x : sProp 𝕄)
      ⊢ iprop((owns (c : Thread nD τ) (m.slice r hr) fullShare w -∗ WP c (k ⟨⟩) Q) -∗ WP c (.op (.store m r w Mk hx hm) k) Q) := by
  subst hMk
  unfold owns
  iintro ⟨%f, %hf, H⟩ Hk
  iapply (wp_store 𝒱₀ (c : Thread nD τ) none Set.univ (m := m) (r := r) (Mk := Finset.univ) (S := (m.access r).set) (Finset.Subset.refl _)) $$ H
  iintro H
  iapply Hk
  iexists _
  isplitr
  rotate_left
  · iexact H
  · ipureintro; exact View.read_write_univ (v := m.access r) f w

end Access

/-- What a transfer between two squeezed slices delivers: the destination slice reads what the source slice read. -/
theorem owns_landed {s t : Shape} {e : EltTy} {sp sp' : Space} (c c' : Dev nD) (M : Memref sig .tc sp s e) (N : Memref sig .tc sp' s e)
    (h : s.Squeezes t) (fd : Buf (Elt F) ((N.squeeze t h).view.loc (c' : Thread nD τ))) (fs : Buf (Elt F) ((M.squeeze t h).view.loc (c : Thread nD τ)))
    (x : s.Idx → Elt F e) (hx : M.view.read (Elt F) fs = x) :
    ((N.squeeze t h).view.loc (c' : Thread nD τ) ↦[(N.squeeze t h).view.set]{fullShare}
        (N.squeeze t h).view.write (Elt F) fd ((M.squeeze t h).view.read (Elt F) fs) Finset.univ : sProp 𝕄)
      ⊢ owns (c' : Thread nD τ) N fullShare x := by
  unfold owns
  have hs : (N.squeeze t h).view.set = N.view.set := View.set_reshape (v := N.view) h.numel_eq
  rw [hs]
  iintro H
  iexists _
  isplitr
  rotate_left
  · iexact H
  · ipureintro
    funext i
    obtain ⟨j, rfl⟩ := (Shape.reshapeEquiv h.numel_eq).surjective i
    exact (View.read_write_reshape N.view h.numel_eq fd _ j).trans (congrFun hx _)

/-! ## Slots named -/

abbrev aP (c : Dev nD) (b : Fin 4) (x : Vec F S1x32x8x128 .f32) : sProp 𝕄 := owns (c : Thread nD τ) (aM.slice (rA b) (fun _ => rfl)) fullShare x
abbrev lP' (c : Dev nD) (b : Fin 4) (x : Vec F S1x32x8 .f32) : sProp 𝕄 := owns (c : Thread nD τ) (lM.slice (rL b) (fun _ => rfl)) fullShare x
abbrev oP (c : Dev nD) (b : Fin 4) (x : Vec F S1x32x8x128 .f32) : sProp 𝕄 := owns (c : Thread nD τ) (oM.slice (rA b) (fun _ => rfl)) fullShare x
abbrev qP' (c : Dev nD) (b : Fin 4) (x : Vec F S1x32x8x128 .f32) : sProp 𝕄 := owns (c : Thread nD τ) (qM.slice (rA b) (fun _ => rfl)) fullShare x
abbrev kP (c : Dev nD) (s : Fin 2) (x : Vec F S1x1024x8x128 .f32) : sProp 𝕄 := owns (c : Thread nD τ) (kM.slice (rK s) (fun _ => rfl)) fullShare x
abbrev vP (c : Dev nD) (s : Fin 2) (x : Vec F S1x1024x8x128 .f32) : sProp 𝕄 := owns (c : Thread nD τ) (vM.slice (rK s) (fun _ => rfl)) fullShare x

/-! ## A head's numerators stored -/

/-- A block with head `h` replaced. -/
def putH (h : Fin 8) (p : Vec F S1x32x1x128 .f32) (x : Vec F S1x32x8x128 .f32) : Vec F S1x32x8x128 .f32 :=
  fun i => if (i 2).val = h.val then p (ValueIdx.ix4 0 (i 1) 0 (i 3)) else x i

theorem rH_sub (b : Fin 4) (h : Fin 8) : (rH b h).set ⊆ (rA b).set := by
  intro i hi
  rw [Rect.mem_set_unit] at hi ⊢
  intro a
  have := hi a
  match a with
  | 0 => exact this
  | 1 => exact this
  | 2 => exact ⟨Nat.zero_le _, (i 2).isLt⟩
  | 3 => exact this

theorem emb_rH (b : Fin 4) (h : Fin 8) (i : (rA b).shape.Idx) (hi : (i 2).val = h.val) :
    (rA b).emb i = (rH b h).emb (ValueIdx.ix4 0 (i 1) 0 (i 3)) := by
  funext a; apply Fin.ext
  have h0 : (i 0).val = 0 := Nat.lt_one_iff.mp (i 0).isLt
  match a with
  | 0 => show b.val + 1 * (i 0).val = b.val + 1 * 0; omega
  | 1 => rfl
  | 2 => show 0 + 1 * (i 2).val = h.val + 1 * 0; rw [hi]; omega
  | 3 => rfl

theorem not_mem_rH (b : Fin 4) (h : Fin 8) (i : (rA b).shape.Idx) (hi : (i 2).val ≠ h.val) : (rA b).emb i ∉ (rH b h).set := by
  rw [Rect.mem_set_unit]
  intro hh
  have h1 : h.val ≤ 0 + 1 * (i 2).val ∧ 0 + 1 * (i 2).val < h.val + 1 := hh 2
  exact hi (by omega)

theorem read_putH (b : Fin 4) (h : Fin 8) (p : Vec F S1x32x1x128 .f32) (f : S4x32x8x128.Idx → Elt F .f32) :
    (aM.access (rA b)).read (Elt F) ((aM.access (rH b h)).write (Elt F) f p Finset.univ) = putH h p ((aM.access (rA b)).read (Elt F) f) := by
  funext i
  unfold putH
  rw [View.read_apply]
  by_cases hi : (i 2).val = h.val
  · rw [if_pos hi]
    have e : (aM.access (rA b)).emb i = (aM.access (rH b h)).emb (ValueIdx.ix4 0 (i 1) 0 (i 3)) := emb_rH b h i hi
    rw [e, View.write_emb_of_mem _ _ (Finset.mem_univ _)]; rfl
  · rw [if_neg hi, View.write_of_not_mem _ _ _ (by
      rw [show (aM.access (rH b h)).setOn Finset.univ = (rH b h).set from View.set_slice_whole _ _]
      exact not_mem_rH b h i hi)]
    rfl

theorem wp_head (c : Dev nD) (b : Fin 4) (h : Fin 8) (p : FVec F S1x32x1x128 .f32) (x : Vec F S1x32x8x128 .f32) {α : Type} {k : PUnit → PR F α} {Q : α → sProp 𝕄} :
    (aP c b x : sProp 𝕄) ⊢ iprop((aP c b (putH h p x) -∗ WP c (k ⟨⟩) Q) -∗ WP c (head b h p >>= k) Q) := by
  unfold head
  simp only [Prog.lift, Prog.bind_op, Prog.bind_ret, Prog.pure_eq_ret]
  have hsub : (aM.access (rH b h)).set ⊆ (aM.access (rA b)).set := by
    rw [View.set_slice, View.set_slice]; exact Finset.map_subset_map.mpr (rH_sub b h)
  unfold aP owns
  iintro ⟨%f, %hf, H⟩ Hk
  iapply (wp_load_rect 𝒱₀ (c : Thread nD τ) none Set.univ (m := aM) (r := rH b h) (S := (aM.access (rA b)).set) hsub) $$ H
  iintro H
  iapply (wp_store 𝒱₀ (c : Thread nD τ) none Set.univ (m := aM) (r := rH b h) (Mk := Finset.univ) (S := (aM.access (rA b)).set) hsub) $$ H
  iintro H
  iapply Hk
  iexists _
  isplitr
  rotate_left
  · iexact H
  · ipureintro
    exact (read_putH b h p f).trans (congrArg (putH h p) hf)

/-- Eight heads stored one after the other make the block of numerators. -/
theorem putH_all (q : Vec F S1x32x8x128 .f32) (k v : Vec F S1x1024x8x128 .f32) (x : Vec F S1x32x8x128 .f32) :
    putH 7 (nP 7 (qP q) (kvP k) (kvP v)) (putH 6 (nP 6 (qP q) (kvP k) (kvP v)) (putH 5 (nP 5 (qP q) (kvP k) (kvP v))
      (putH 4 (nP 4 (qP q) (kvP k) (kvP v)) (putH 3 (nP 3 (qP q) (kvP k) (kvP v)) (putH 2 (nP 2 (qP q) (kvP k) (kvP v))
      (putH 1 (nP 1 (qP q) (kvP k) (kvP v)) (putH 0 (nP 0 (qP q) (kvP k) (kvP v)) x))))))) = numP q k v := by
  funext i
  have key : ∀ j : Fin 8, (i 2).val = j.val → numP q k v i = nP j (qP q) (kvP k) (kvP v) (ValueIdx.ix4 0 (i 1) 0 (i 3)) := fun j hj => by
    have hj' : (i 2 : Fin 8) = j := Fin.ext hj
    unfold numP; rw [hj']
  unfold putH
  split <;> rename_i h7
  · exact (key _ h7).symm
  split <;> rename_i h6
  · exact (key _ h6).symm
  split <;> rename_i h5
  · exact (key _ h5).symm
  split <;> rename_i h4
  · exact (key _ h4).symm
  split <;> rename_i h3
  · exact (key _ h3).symm
  split <;> rename_i h2
  · exact (key _ h2).symm
  split <;> rename_i h1
  · exact (key _ h1).symm
  split <;> rename_i h0
  · exact (key _ h0).symm
  exfalso
  have := (i 2).isLt
  simp only [Fin.isValue, Fin.reduceFinMk, Fin.val_ofNat] at h0 h1 h2 h3 h4 h5 h6 h7
  change (i 2).val < 8 at this
  omega

end Cert.KProof

end
-- ==== Proof.Steps.lean ====
/-
# The stages, one rule each

What each stage of the body needs and leaves, at a symbolic device, batch and exchange.
-/
module

public import proofs.«01_k».proof.Proof.Slots

@[expose] public section

set_option maxRecDepth 16384
set_option synthInstance.maxSize 4096

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Option XI → ℕ)

/-- What a device still owes, whatever it has waited on. -/
def Ow (c : Dev nD) (O : CellTallies nD τ sig Unit) : sProp 𝕄 := iprop(∃ W, owes (c : Thread nD τ) O W)

/-! ## Waits and sends of the exchange -/

/-- Waiting for an exchange cell's one delivery: it comes, and the cell ends at zero. -/
theorem wp_wait_x (c : Dev nD) (i : XI) (q : DmaSem sig) (hq : q = xsem i) {sp sp' : Space} {s s' : Shape} {e e' : EltTy}
    {src : Memref sig .tc sp' s' e'} {dst : Memref sig .tc sp s e} {hs : src.view.WordExact} {hd : dst.view.WordExact}
    (hN : dst.view.dmaCredit = NX i.1) {O : CellTallies nD τ sig Unit} {α : Type} {k : PUnit → PR F α} {Q : α → sProp 𝕄} :
    iprop(records m ρ K ∗ cred (tallyAt (xC c i) () (NX i.1)) ∗ Ow c O ∗ MayWait (c : Thread nD τ) (.dma q) () O ∗ atPos ER (xC c i) 0 ∅ 0)
      ⊢ iprop(((Ow c O ∗ semVal (xC c i) 0 ∗ xPay m ρ c i) -∗ WP c (k ⟨⟩) Q) -∗ WP c (.op (.waitDma2 q src dst hs hd) k) Q) := by
  subst hq
  unfold Ow
  iintro ⟨#HR, Hc, ⟨%W, HO⟩, Hmw, Hat⟩ Hk
  ihave HR' := (record_at m ρ K (c, some i)) $$ HR
  icases HR' with ⟨#HI, -⟩
  iapply (Rounds.wp_wait_rest_token 𝒱₀ ER (Rd m ρ) (c : Thread nD τ) none (κ := K (c, some i))
      (wpE_waitDma2_eq 𝒱₀ (c : Thread nD τ) none Set.univ) (Set.mem_univ _) () (O := O) (W := W) (R := 0) (m := 0) (T := ∅)
      (by rw [Nat.zero_add, expect_x, hN])) $$ [Hc HO Hmw Hat]
  · isplitr; · iexact HI
    isplitl [Hc]; · rw [hN]; iexact Hc
    isplitl [HO]; · iexact HO
    isplitl [Hmw]; · iexact Hmw
    iexact Hat
  iintro ⟨HO, Hat, -, Hpay⟩
  ihave Hp := (Entails.of_eq (rest_x m ρ c i)) $$ Hpay
  imod (Rounds.cell_close ER (Rd m ρ) (Set.mem_univ (K (c, some i))) (fun h => h) (R := 0 + 1) (duties_later m ρ (xC c i))) $$ [Hat] with Hz
  · isplitr; · iexact HI
    iexact Hat
  iapply Hk
  isplitl [HO]; · iexists _; iexact HO
  isplitl [Hz] <;> iassumption

theorem owns_intro {s : Shape} {e : EltTy} {sp : Space} (c : Dev nD) (M : Memref sig .tc sp s e) (f : Buf (Elt F) (M.view.loc (c : Thread nD τ)))
    (x : s.Idx → Elt F e) (hx : M.view.read (Elt F) f = x) :
    (M.view.loc (c : Thread nD τ) ↦[M.view.set]{fullShare} f : sProp 𝕄) ⊢ owns (c : Thread nD τ) M fullShare x := by
  unfold owns
  iintro H; iexists f; isplitr
  · ipureintro; exact hx
  iexact H

/-- A send into the partner's slot. -/
theorem wp_send_x {s t : Shape} {e : EltTy} (c n : Dev nD) (r : Fin 3) (hn : n = peer r c) (M N : Memref sig .tc .vmem s e) (h : s.Squeezes t)
    (i j : XI) (qs qr : DmaSem sig) (hqs : qs = xsem i) (hqr : qr = xsem j) (NB : ℕ) (hNB : (N.squeeze t h).view.amount (.dma qr) = NB)
    (hi : NX i.1 = NB) (hj : NX j.1 = NB) (x : s.Idx → Elt F e)
    (hp1 : owns (c : Thread nD τ) M fullShare x ⊢ xPay m ρ c i)
    (hp2 : owns (peer r c : Thread nD τ) N fullShare x ⊢ xPay m ρ (peer r c) j)
    {hsc : (N.squeeze t h : Memref sig (Dev.tc n : Thread nD τ).2.kind .vmem t e).view.ref.isScScratch = false}
    {hsrc : (M.squeeze t h).view.WordExact} {hdst : (N.squeeze t h).view.WordExact}
    {hsem : DmaTarget.Typed .vmem (.dma qr) (.remote (Dev.tc n : Thread nD τ) (N.squeeze t h : Memref sig (Dev.tc n : Thread nD τ).2.kind .vmem t e) (.dma qs) hsc)}
    (O : CellTallies nD τ sig Unit) {α : Type} {k : PUnit → PR F α} {Q : α → sProp 𝕄} :
    iprop(records m ρ K ∗ owns (c : Thread nD τ) M fullShare x ∗ (∃ y, owns (peer r c : Thread nD τ) N fullShare y)
        ∗ Ow c (O + tallyAt (xC (peer r c) j) () NB) ∗ dutyTok ER (xC c i) 0 0 ∗ dutyTok ER (xC (peer r c) j) 0 0)
      ⊢ iprop(((cred (tallyAt (xC c i) () NB) ∗ Ow c O) -∗ WP c (k ⟨⟩) Q)
          -∗ WP c (.op (.enqueueDma (M.squeeze t h) (.remote (Dev.tc n : Thread nD τ) (N.squeeze t h) (.dma qs) hsc) (.dma qr) hsrc hdst hsem) k) Q) := by
  subst hn hqs hqr
  unfold Ow
  iintro ⟨#HR, HM, ⟨%y, HN⟩, ⟨%W, HO⟩, Ht1, Ht2⟩ Hk
  ihave HR1 := (record_at m ρ K (c, some i)) $$ HR
  icases HR1 with ⟨#HI1, #Hr1⟩
  ihave HR2 := (record_at m ρ K (peer r c, some j)) $$ HR
  icases HR2 with ⟨#HI2, #Hr2⟩
  ihave HM' := (show owns (c : Thread nD τ) M fullShare x ⊢ iprop(∃ g, ⌜M.view.read (Elt F) g = x⌝ ∗ M.view.loc (c : Thread nD τ) ↦[M.view.set]{fullShare} g) from .rfl) $$ HM
  icases HM' with ⟨%fs, %hfs, HM⟩
  ihave HN' := (show owns (peer r c : Thread nD τ) N fullShare y ⊢ iprop(∃ g, ⌜N.view.read (Elt F) g = y⌝ ∗ N.view.loc (peer r c : Thread nD τ) ↦[N.view.set]{fullShare} g) from .rfl) $$ HN
  icases HN' with ⟨%fd, %hfd, HN⟩
  have hsM : (M.squeeze t h).view.set = M.view.set := View.set_reshape (v := M.view) h.numel_eq
  have hsN : (N.squeeze t h).view.set = N.view.set := View.set_reshape (v := N.view) h.numel_eq
  iapply (Rounds.wp_send_pointsTo 𝒱₀ ER (Rd m ρ) (c : Thread nD τ) none (κ₁ := K (c, some i)) (κ₂ := K (peer r c, some j))
    (src := M.squeeze t h) (dst := N.squeeze t h) (c' := (peer r c : Thread nD τ)) (fs := fs) (q := fullShare)
    (r₁ := 0) (r₂ := 0) (d₁ := 0) (d₂ := 0) (fd := fd)
    (by rw [duties_x]; exact Finset.mem_singleton_self _) (by rw [duties_x]; exact Finset.mem_singleton_self _)
    () () NB hNB ((amount_x m ρ c i 0).trans hi) ((amount_x m ρ (peer r c) j 0).trans hj) O rfl (W := W)
    (by
      rw [payload_x, hsM]
      exact (owns_intro c M fs x hfs).trans hp1)
    (by
      rw [payload_x]
      exact (owns_landed c (peer r c) M N h fd fs x hfs).trans hp2)) $$ [HM HN HO Ht1 Ht2]
  · isplitr; · iexact HI1
    isplitr; · iexact HI2
    isplitl [HM]; · rw [hsM]; iexact HM
    isplitl [HN]; · rw [hsN]; iexact HN
    isplitl [HO]; · iexact HO
    isplitl [Ht1]; · iexact Ht1
    isplitr; · iexact Hr1
    isplitl [Ht2]; · iexact Ht2
    iexact Hr2
  iintro ⟨Hc, HO⟩
  iapply Hk
  isplitl [Hc]; · iexact Hc
  iexists W; iexact HO

/-! ## What an exchange holds, from start to end -/

abbrev crd (c : Dev nD) (i : XI) : sProp 𝕄 := cred (tallyAt (xC c i) () (NX i.1))
abbrev pos (c : Dev nD) (i : XI) : sProp 𝕄 := atPos ER (xC c i) 0 ∅ 0
abbrev zero (c : Dev nD) (i : XI) : sProp 𝕄 := semVal (xC c i) 0

def toks (c : Dev nD) (b : Fin 4) (r : Fin 3) : sProp 𝕄 :=
  iprop(dutyTok ER (xC c (0, b, r)) 0 0 ∗ dutyTok ER (xC (peer r c) (1, b, r)) 0 0
    ∗ dutyTok ER (xC c (2, b, r)) 0 0 ∗ dutyTok ER (xC (peer r c) (3, b, r)) 0 0)
def waits (c : Dev nD) (b : Fin 4) (r : Fin 3) : sProp 𝕄 :=
  iprop(pos c (0, b, r) ∗ pos c (1, b, r) ∗ pos c (2, b, r) ∗ pos c (3, b, r) ∗ crd c (1, b, r) ∗ crd c (3, b, r))
/-- Before its send: both send slots, the partner's receive slots, and what the send and the waits consume. -/
def Pre (c : Dev nD) (b : Fin 4) (r : Fin 3) : sProp 𝕄 := iprop(sslots c b r ∗ slots (peer r c) b r ∗ toks c b r ∗ waits c b r)
/-- Sent, not yet received. -/
def Sent (c : Dev nD) (b : Fin 4) (r : Fin 3) : sProp 𝕄 := iprop(waits c b r ∗ crd c (0, b, r) ∗ crd c (2, b, r))
/-- What is left to wait for once an exchange has been received. -/
def rest (c : Dev nD) (b : Fin 4) (r : Fin 3) : sProp 𝕄 :=
  iprop(zero c (1, b, r) ∗ zero c (3, b, r) ∗ pos c (0, b, r) ∗ pos c (2, b, r) ∗ crd c (0, b, r) ∗ crd c (2, b, r))
def Rcvd (c : Dev nD) (b : Fin 4) (r : Fin 3) : sProp 𝕄 := iprop(slots c b r ∗ rest c b r)
/-- Over: all four slots back, all four semaphores at zero. -/
def Done (c : Dev nD) (b : Fin 4) (r : Fin 3) : sProp 𝕄 :=
  iprop(slots c b r ∗ sslots c b r ∗ zero c (0, b, r) ∗ zero c (1, b, r) ∗ zero c (2, b, r) ∗ zero c (3, b, r))

/-- A batch's running sums. -/
def acc (c : Dev nD) (b : Fin 4) (n : ℕ) : sProp 𝕄 := iprop(aP c b (AN m ρ n c b) ∗ lP' c b (AD m ρ n c b))

theorem xPay_1 (c : Dev nD) (b : Fin 4) (r : Fin 3) : xPay m ρ c (1, b, r) ⊢ rbP c b r (pkN (AN m ρ r.val (peer r c) b)) := .rfl
theorem xPay_3 (c : Dev nD) (b : Fin 4) (r : Fin 3) : xPay m ρ c (3, b, r) ⊢ rlP c b r (pkL (AD m ρ r.val (peer r c) b)) := .rfl
theorem xPay_0 (c : Dev nD) (b : Fin 4) (r : Fin 3) : xPay m ρ c (0, b, r) ⊢ iprop(∃ x, sbP c b r x) := .rfl
theorem xPay_2 (c : Dev nD) (b : Fin 4) (r : Fin 3) : xPay m ρ c (2, b, r) ⊢ iprop(∃ x, slP c b r x) := .rfl

theorem credit_rb (b : Fin 4) (r : Fin 3) : (rbS b r).view.dmaCredit = NN := rfl
theorem credit_sb (b : Fin 4) (r : Fin 3) : (sbS b r).view.dmaCredit = NN := rfl
theorem credit_rl (b : Fin 4) (r : Fin 3) : (rlS b r).view.dmaCredit = NL := rfl
theorem credit_sl (b : Fin 4) (r : Fin 3) : (slS b r).view.dmaCredit = NL := rfl

section Rules
variable (c : Dev nD) (b : Fin 4) (r : Fin 3)

theorem wp_pack (x : Vec F S1x32x8x128 .f32) (y : Vec F S1x32x8 .f32) {α : Type} {k : PUnit → PR F α} {Q : α → sProp 𝕄} :
    iprop(aP c b x ∗ lP' c b y ∗ sslots c b r)
      ⊢ iprop(((aP c b x ∗ lP' c b y ∗ sbP c b r (pkN x) ∗ slP c b r (pkL y)) -∗ WP c (k ⟨⟩) Q) -∗ WP c (pack b r >>= k) Q) := by
  unfold pack sslots
  simp only [Prog.lift, Prog.bind_op, Prog.bind_ret, Prog.pure_eq_ret]
  iintro ⟨Ha, Hl, ⟨%u, Hs⟩, ⟨%w, Ht⟩⟩ Hk
  iapply (wp_load_owns c aM (rA b) (fun _ => rfl) x) $$ Ha; iintro Ha
  iapply (wp_load_owns c sbM (rX b r) (fun _ => rfl) u) $$ Hs; iintro Hs
  iapply (wp_store_owns c sbM (rX b r) (fun _ => rfl) rfl u) $$ Hs; iintro Hs
  iapply (wp_load_owns c lM (rL b) (fun _ => rfl) y) $$ Hl; iintro Hl
  iapply (wp_load_owns c slM (rY b r) (fun _ => rfl) w) $$ Ht; iintro Ht
  iapply (wp_store_owns c slM (rY b r) (fun _ => rfl) rfl w) $$ Ht; iintro Ht
  iapply Hk
  isplitl [Ha]; · iexact Ha
  isplitl [Hl]; · iexact Hl
  isplitl [Hs]; · iexact Hs
  iexact Ht

theorem wp_send (n n' : Dev nD) (hn : n = peer r c) (hn' : n' = peer r c) (l : List (Fin 4 × Fin 3)) {α : Type} {k : PUnit → PR F α} {Q : α → sProp 𝕄} :
    iprop(records m ρ K ∗ sbP c b r (pkN (AN m ρ r.val c b)) ∗ slP c b r (pkL (AD m ρ r.val c b)) ∗ slots (peer r c) b r
        ∗ toks c b r ∗ waits c b r ∗ Ow c (owedL c ((b, r) :: l)))
      ⊢ iprop(((Sent c b r ∗ Ow c (owedL c l)) -∗ WP c (k ⟨⟩) Q) -∗ WP c (send b r n n' >>= k) Q) := by
  unfold send slots toks Sent
  simp only [Prog.lift, Prog.bind_op, Prog.bind_ret, Prog.pure_eq_ret]
  iintro ⟨#HR, Hs, Ht, ⟨Hd, Hd'⟩, ⟨Ht0, Ht1, Ht2, Ht3⟩, Hw, HO⟩ Hk
  iapply (wp_send_x m ρ K c n r hn (sbM.slice (rX b r) (fun _ => rfl)) (rbM.slice (rX b r) (fun _ => rfl)) squeezes_S1x1x32x8x128_S32x8x128
    (0, b, r) (1, b, r) (snS b r) (rnS b r) rfl rfl NN rfl rfl rfl (pkN (AN m ρ r.val c b))
    (by iintro H; unfold xPay; iexists _; iexact H)
    (by show _ ⊢ rbP (peer r c) b r (pkN (AN m ρ r.val (peer r (peer r c)) b)); rw [peer_peer])
    (owedL c l + tallyAt (xC (peer r c) (3, b, r)) () NL)) $$ [Hs Hd HO Ht0 Ht1]
  · isplitr; · iexact HR
    isplitl [Hs]; · iexact Hs
    isplitl [Hd]; · iexact Hd
    isplitl [HO]; · rw [add_assoc]; iexact HO
    isplitl [Ht0]; · iexact Ht0
    iexact Ht1
  iintro ⟨Hc0, HO⟩
  iapply (wp_send_x m ρ K c n' r hn' (slM.slice (rY b r) (fun _ => rfl)) (rlM.slice (rY b r) (fun _ => rfl)) squeezes_S1x1x32x8_S32x8
    (2, b, r) (3, b, r) (ssS b r) (rsS b r) rfl rfl NL rfl rfl rfl (pkL (AD m ρ r.val c b))
    (by iintro H; unfold xPay; iexists _; iexact H)
    (by show _ ⊢ rlP (peer r c) b r (pkL (AD m ρ r.val (peer r (peer r c)) b)); rw [peer_peer])
    (owedL c l)) $$ [Ht Hd' HO Ht2 Ht3]
  · isplitr; · iexact HR
    isplitl [Ht]; · iexact Ht
    isplitl [Hd']; · iexact Hd'
    isplitl [HO]; · iexact HO
    isplitl [Ht2]; · iexact Ht2
    iexact Ht3
  iintro ⟨Hc2, HO⟩
  iapply Hk
  isplitr [HO]
  · isplitl [Hw]; · iexact Hw
    isplitl [Hc0]; · iexact Hc0
    iexact Hc2
  iexact HO

theorem wp_recv (l : List (Fin 4 × Fin 3)) (hl : ∀ i ∈ l, xlev b r < xlev i.1 i.2) {α : Type} {k : PUnit → PR F α} {Q : α → sProp 𝕄} :
    iprop(records m ρ K ∗ levAts L lv ∗ Sent c b r ∗ Ow c (owedL c l))
      ⊢ iprop(((rbP c b r (pkN (AN m ρ r.val (peer r c) b)) ∗ rlP c b r (pkL (AD m ρ r.val (peer r c) b)) ∗ rest c b r ∗ Ow c (owedL c l))
          -∗ WP c (k ⟨⟩) Q) -∗ WP c (recv b r >>= k) Q) := by
  unfold recv Sent waits rest
  simp only [Prog.lift, Prog.bind_op, Prog.bind_ret, Prog.pure_eq_ret]
  iintro ⟨#HR, #Hlev, ⟨⟨Hp0, Hp1, Hp2, Hp3, Hc1, Hc3⟩, Hc0, Hc2⟩, HO⟩ Hk
  iapply (wp_wait_x m ρ K c (1, b, r) (rnS b r) rfl (credit_rb b r) (O := owedL c l)) $$ [Hp1 Hc1 HO]
  · isplitr; · iexact HR
    isplitl [Hc1]; · iexact Hc1
    isplitl [HO]; · iexact HO
    isplitr
    · iapply (mayWait_of c (.dma (xsem (1, b, r))) (xlev b r) l (le_of_eq (lv_rn c b r ())) hl); iexact Hlev
    iexact Hp1
  iintro ⟨HO, Hz1, Hx1⟩
  iapply (wp_wait_x m ρ K c (3, b, r) (rsS b r) rfl (credit_rl b r) (O := owedL c l)) $$ [Hp3 Hc3 HO]
  · isplitr; · iexact HR
    isplitl [Hc3]; · iexact Hc3
    isplitl [HO]; · iexact HO
    isplitr
    · iapply (mayWait_of c (.dma (xsem (3, b, r))) (xlev b r) l (le_of_eq (lv_rs c b r ())) hl); iexact Hlev
    iexact Hp3
  iintro ⟨HO, Hz3, Hx3⟩
  iapply Hk
  isplitl [Hx1]; · iapply (xPay_1 m ρ c b r) $$ Hx1
  isplitl [Hx3]; · iapply (xPay_3 m ρ c b r) $$ Hx3
  isplitr [HO]
  · isplitl [Hz1]; · iexact Hz1
    isplitl [Hz3]; · iexact Hz3
    isplitl [Hp0]; · iexact Hp0
    isplitl [Hp2]; · iexact Hp2
    isplitl [Hc0] <;> iassumption
  iexact HO

theorem wp_combine {α : Type} {k : PUnit → PR F α} {Q : α → sProp 𝕄} :
    iprop(acc m ρ c b r.val ∗ rbP c b r (pkN (AN m ρ r.val (peer r c) b)) ∗ rlP c b r (pkL (AD m ρ r.val (peer r c) b)))
      ⊢ iprop(((acc m ρ c b (r.val + 1) ∗ slots c b r) -∗ WP c (k ⟨⟩) Q) -∗ WP c (combine b r >>= k) Q) := by
  unfold combine acc slots
  simp only [Prog.lift, Prog.bind_op, Prog.bind_ret, Prog.pure_eq_ret]
  rw [AN_succ, AD_succ]
  iintro ⟨⟨Ha, Hl⟩, Hs, Ht⟩ Hk
  iapply (wp_load_owns c aM (rA b) (fun _ => rfl) _) $$ Ha; iintro Ha
  iapply (wp_load_owns c rbM (rX b r) (fun _ => rfl) _) $$ Hs; iintro Hs
  iapply (wp_load_owns c aM (rA b) (fun _ => rfl) _) $$ Ha; iintro Ha
  iapply (wp_store_owns c aM (rA b) (fun _ => rfl) rfl _) $$ Ha; iintro Ha
  iapply (wp_load_owns c lM (rL b) (fun _ => rfl) _) $$ Hl; iintro Hl
  iapply (wp_load_owns c rlM (rY b r) (fun _ => rfl) _) $$ Ht; iintro Ht
  iapply (wp_load_owns c lM (rL b) (fun _ => rfl) _) $$ Hl; iintro Hl
  iapply (wp_store_owns c lM (rL b) (fun _ => rfl) rfl _) $$ Hl; iintro Hl
  iapply Hk
  isplitl [Ha Hl]
  · isplitl [Ha]; · iexact Ha
    iexact Hl
  isplitl [Hs]
  · iexists _; iexact Hs
  · iexists _; iexact Ht

theorem wp_finish (n : ℕ) {α : Type} {k : PUnit → PR F α} {Q : α → sProp 𝕄} :
    iprop(acc m ρ c b n ∗ ∃ x, oP c b x)
      ⊢ iprop(((acc m ρ c b n ∗ oP c b (quP (AN m ρ n c b) (AD m ρ n c b))) -∗ WP c (k ⟨⟩) Q) -∗ WP c (finish b >>= k) Q) := by
  unfold finish acc
  simp only [Prog.lift, Prog.bind_op, Prog.bind_ret, Prog.pure_eq_ret]
  iintro ⟨⟨Ha, Hl⟩, ⟨%x, Ho⟩⟩ Hk
  iapply (wp_load_owns c aM (rA b) (fun _ => rfl) _) $$ Ha; iintro Ha
  iapply (wp_load_owns c lM (rL b) (fun _ => rfl) _) $$ Hl; iintro Hl
  iapply (wp_load_owns c oM (rA b) (fun _ => rfl) _) $$ Ho; iintro Ho
  iapply (wp_store_owns c oM (rA b) (fun _ => rfl) rfl _) $$ Ho; iintro Ho
  iapply Hk
  isplitl [Ha Hl]
  · isplitl [Ha]; · iexact Ha
    iexact Hl
  iexact Ho

theorem wp_sent {α : Type} {k : PUnit → PR F α} {Q : α → sProp 𝕄} :
    iprop(records m ρ K ∗ Rcvd c b r ∗ Ow c 0)
      ⊢ iprop(((Done c b r ∗ Ow c 0) -∗ WP c (k ⟨⟩) Q) -∗ WP c (sent b r >>= k) Q) := by
  unfold sent Rcvd rest Done sslots
  simp only [Prog.lift, Prog.bind_op, Prog.bind_ret, Prog.pure_eq_ret]
  iintro ⟨#HR, ⟨Hs, Hz1, Hz3, Hp0, Hp2, Hc0, Hc2⟩, HO⟩ Hk
  iapply (wp_wait_x m ρ K c (0, b, r) (snS b r) rfl (credit_sb b r) (O := 0)) $$ [Hp0 Hc0 HO]
  · isplitr; · iexact HR
    isplitl [Hc0]; · iexact Hc0
    isplitl [HO]; · iexact HO
    isplitr; · rw [MayWait_zero]; iempintro
    iexact Hp0
  iintro ⟨HO, Hz0, Hx0⟩
  iapply (wp_wait_x m ρ K c (2, b, r) (ssS b r) rfl (credit_sl b r) (O := 0)) $$ [Hp2 Hc2 HO]
  · isplitr; · iexact HR
    isplitl [Hc2]; · iexact Hc2
    isplitl [HO]; · iexact HO
    isplitr; · rw [MayWait_zero]; iempintro
    iexact Hp2
  iintro ⟨HO, Hz2, Hx2⟩
  iapply Hk
  isplitr [HO]
  · isplitl [Hs]; · iexact Hs
    isplitl [Hx0 Hx2]
    · isplitl [Hx0]; · iapply (xPay_0 m ρ c b r) $$ Hx0
      iapply (xPay_2 m ρ c b r) $$ Hx2
    isplitl [Hz0]; · iexact Hz0
    isplitl [Hz1]; · iexact Hz1
    isplitl [Hz2] <;> iassumption
  iexact HO

end Rules

end Cert.KProof

end
-- ==== Proof.Phases.lean ====
/-
# The phases of the body

The barrier, the local copies of keys and values, and one exchange of one batch from its receive to the next send.
-/
module

public import proofs.«01_k».proof.Proof.Steps

@[expose] public section

set_option maxRecDepth 16384
set_option synthInstance.maxSize 4096

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Option XI → ℕ)

/-! ## The barrier -/

/-- One signal: the receive slots of round `r` go to the partner. -/
theorem wp_signal_bar (c n : Dev nD) (r : Fin 3) (hn : n = peer r c) (O : CellTallies nD τ sig Unit) {α : Type} {k : PUnit → PR F α} {Q : α → sProp 𝕄} :
    iprop(records m ρ K ∗ Ow c (O + owedB c r) ∗ dutyTok ER (barC (peer r c)) 0 r ∗ bigSep Finset.univ fun b => slots (F := F) c b r)
      ⊢ iprop((Ow c O -∗ WP c (k ⟨⟩) Q) -∗ WP c (.op (.semSignal (Dev.tc n) barS (1#32 : BitVec 32).toInt) k) Q) := by
  subst hn
  unfold Ow
  iintro ⟨#HR, ⟨%W, HO⟩, Ht, Hs⟩ Hk
  ihave HR' := (record_at m ρ K (peer r c, none)) $$ HR
  icases HR' with ⟨#HI, #Hr⟩
  iapply (Rounds.wp_signal 𝒱₀ ER (Rd m ρ) (c : Thread nD τ) none (dst := (peer r c : Thread nD τ)) (κ := K (peer r c, none)) (W := W)
      (d := r) (by rw [duties_bar]; exact Finset.mem_univ _) ((amount_bar m ρ (peer r c) r).trans (by decide)) () O rfl)
    $$ [HO Ht Hs]
  · isplitr; · iexact HI
    isplitl [HO]; · iexact HO
    isplitl [Ht]; · iexact Ht
    isplitl [Hs]
    · rw [payload_bar]; unfold barPay; rw [peer_peer]; iexact Hs
    iexact Hr
  iintro HO
  iapply Hk
  iexists W; iexact HO

theorem wp_barrier (c : Dev nD) (n : Fin 3 → Dev nD) (hn : ∀ r, n r = peer r c) {α : Type} {k : PUnit → PR F α} {Q : α → sProp 𝕄} :
    iprop(records m ρ K ∗ levAts L lv ∗ Ow c (O₀ c)
        ∗ (dutyTok ER (barC (peer 0 c)) 0 0 ∗ dutyTok ER (barC (peer 1 c)) 0 1 ∗ dutyTok ER (barC (peer 2 c)) 0 2)
        ∗ ((bigSep Finset.univ fun b => slots (F := F) c b 0) ∗ (bigSep Finset.univ fun b => slots (F := F) c b 1) ∗ bigSep Finset.univ fun b => slots (F := F) c b 2)
        ∗ cred (tallyAt (barC c) () 3) ∗ atPos ER (barC c) 0 ∅ 0)
      ⊢ iprop(((Ow c (owedL c order) ∗ semVal (barC c) 0 ∗ bigSep Finset.univ (barPay (F := F) c)) -∗ WP c (k ⟨⟩) Q) -∗ WP c (barrier n >>= k) Q) := by
  unfold barrier
  simp only [semSignalWord, semWaitWord, Prog.lift, Prog.bind_op, Prog.bind_ret, Prog.pure_eq_ret]
  unfold O₀
  iintro ⟨#HR, #Hlev, HO, ⟨Ht0, Ht1, Ht2⟩, ⟨Hs0, Hs1, Hs2⟩, Hc, Hat⟩ Hk
  iapply (wp_signal_bar m ρ K c (n 0) 0 (hn 0) _) $$ [HO Ht0 Hs0]
  · isplitr; · iexact HR
    isplitl [HO]; · iexact HO
    isplitl [Ht0]; · iexact Ht0
    iexact Hs0
  iintro HO
  iapply (wp_signal_bar m ρ K c (n 1) 1 (hn 1) _) $$ [HO Ht1 Hs1]
  · isplitr; · iexact HR
    isplitl [HO]; · iexact HO
    isplitl [Ht1]; · iexact Ht1
    iexact Hs1
  iintro HO
  iapply (wp_signal_bar m ρ K c (n 2) 2 (hn 2) _) $$ [HO Ht2 Hs2]
  · isplitr; · iexact HR
    isplitl [HO]; · iexact HO
    isplitl [Ht2]; · iexact Ht2
    iexact Hs2
  unfold Ow
  iintro ⟨%W, HO⟩
  ihave HR' := (record_at m ρ K (c, none)) $$ HR
  icases HR' with ⟨#HI, #Hr⟩
  iapply (Rounds.wp_wait_rest_token 𝒱₀ ER (Rd m ρ) (c : Thread nD τ) none (κ := K (c, none))
      (wpE_semWait_eq 𝒱₀ (c : Thread nD τ) none Set.univ) (Set.mem_univ _) () (O := owedL c order) (W := W) (R := 0) (m := 0) (T := ∅)
      (by rw [expect_bar]; decide)) $$ [Hc HO Hat]
  · isplitr; · iexact HI
    isplitl [Hc]; · iexact Hc
    isplitl [HO]; · iexact HO
    isplitr
    · iapply (mayWait_of c (.reg barS) 1 order (le_of_eq (lv_bar c ())) (by decide)); iexact Hlev
    iexact Hat
  iintro ⟨HO, Hat, -, Hpay⟩
  ihave Hp := (Entails.of_eq (rest_bar m ρ c)) $$ Hpay
  imod (Rounds.cell_close ER (Rd m ρ) (Set.mem_univ (K (c, none))) (fun h => h) (R := 0 + 1) (duties_later m ρ (barC c))) $$ [Hat] with Hz
  · isplitr; · iexact HI
    iexact Hat
  iapply Hk
  isplitl [HO]; · iexists _; iexact HO
  isplitl [Hz]; · iexact Hz
  iexact Hp

/-! ## Local copies -/

/-- A local copy under way from `M` to `N`, to be waited for on `qd`. -/
def Ld {s t : Shape} {e : EltTy} {sp sp' : Space} (c : Dev nD) (M : Memref sig .tc sp s e) (N : Memref sig .tc sp' s e) (h : s.Squeezes t)
    (qd : DmaSem sig) (NB : ℕ) (q : PosShare TreeShare) (f : Buf (Elt F) (M.view.loc (c : Thread nD τ))) : sProp 𝕄 :=
  iprop(∃ fd : Buf (Elt F) (N.view.loc (c : Thread nD τ)), Transfers.Flight EC (c : Thread nD τ) (.dma qd) () NB
    iprop(((N.squeeze t h).view.loc (c : Thread nD τ) ↦[(N.squeeze t h).view.set]{fullShare}
        (N.squeeze t h).view.write (Elt F) fd ((M.squeeze t h).view.read (Elt F) f) Finset.univ)
      ∗ ((M.squeeze t h).view.loc (c : Thread nD τ) ↦[(M.squeeze t h).view.set]{q} f)))

theorem wp_ld_start {s t : Shape} {e : EltTy} {sp sp' : Space} (c : Dev nD) (M : Memref sig .tc sp s e) (N : Memref sig .tc sp' s e) (h : s.Squeezes t)
    (qd : DmaSem sig) (NB : ℕ) (hNB : (N.squeeze t h).view.amount (.dma qd) = NB) (hpos : 0 < NB)
    (q : PosShare TreeShare) (f : Buf (Elt F) (M.view.loc (c : Thread nD τ)))
    {hsrc : (M.squeeze t h).view.WordExact} {hdst : (N.squeeze t h).view.WordExact}
    {hsem : DmaTarget.Typed (nD := nD) (τ := τ) (p := .tc) sp (.dma qd) (.here (N.squeeze t h))}
    {α : Type} {k : PUnit → PR F α} {Q : α → sProp 𝕄} :
    iprop((M.view.loc (c : Thread nD τ) ↦[M.view.set]{q} f) ∗ (∃ y, owns (c : Thread nD τ) N fullShare y) ∗ semVal ((c : Thread nD τ), .dma qd) 0)
      ⊢ iprop((Ld c M N h qd NB q f -∗ WP c (k ⟨⟩) Q)
          -∗ WP c (.op (.enqueueDma (M.squeeze t h) (.here (N.squeeze t h)) (.dma qd) hsrc hdst hsem) k) Q) := by
  have hsM : (M.squeeze t h).view.set = M.view.set := View.set_reshape (v := M.view) h.numel_eq
  have hsN : (N.squeeze t h).view.set = N.view.set := View.set_reshape (v := N.view) h.numel_eq
  iintro ⟨Hs, ⟨%y, HN⟩, Hv⟩ Hk
  ihave HN' := (show owns (c : Thread nD τ) N fullShare y ⊢ iprop(∃ g, ⌜N.view.read (Elt F) g = y⌝ ∗ N.view.loc (c : Thread nD τ) ↦[N.view.set]{fullShare} g) from .rfl) $$ HN
  icases HN' with ⟨%fd, %hfd, HN⟩
  iapply (Transfers.wp_dmaLocal EC 𝒱₀ (c : Thread nD τ) none (src := M.squeeze t h) (dst := N.squeeze t h) (sm := .dma qd) (q := q) (fs := f)
    (Sd := (N.squeeze t h).view.set) (fd := fd) () NB hNB hpos (Finset.Subset.refl _)) $$ [Hs HN Hv]
  · isplitl [Hs]; · rw [hsM]; iexact Hs
    isplitl [HN]; · rw [hsN]; iexact HN
    iexact Hv
  iintro HF
  iapply Hk
  unfold Ld
  iexists fd
  iexact HF

theorem wp_ld_wait {s t s' : Shape} {e e' : EltTy} {sp sp' sq : Space} (c : Dev nD) (M : Memref sig .tc sp s e) (N : Memref sig .tc sp' s e) (h : s.Squeezes t)
    (qd : DmaSem sig) (NB : ℕ) (q : PosShare TreeShare) (f : Buf (Elt F) (M.view.loc (c : Thread nD τ)))
    {srcw : Memref sig .tc sq s' e'} {hsrc : srcw.view.WordExact} {hdst : (N.squeeze t h).view.WordExact}
    (hNB : (N.squeeze t h).view.dmaCredit = NB) (O : CellTallies nD τ sig Unit)
    {α : Type} {k : PUnit → PR F α} {Q : α → sProp 𝕄} :
    iprop(Ld c M N h qd NB q f ∗ Ow c O ∗ MayWait (c : Thread nD τ) (.dma qd) () O)
      ⊢ iprop(((owns (c : Thread nD τ) N fullShare (M.view.read (Elt F) f) ∗ (M.view.loc (c : Thread nD τ) ↦[M.view.set]{q} f)
            ∗ semVal ((c : Thread nD τ), .dma qd) 0 ∗ Ow c O) -∗ WP c (k ⟨⟩) Q)
          -∗ WP c (.op (.waitDma2 qd srcw (N.squeeze t h) hsrc hdst) k) Q) := by
  have hsM : (M.squeeze t h).view.set = M.view.set := View.set_reshape (v := M.view) h.numel_eq
  unfold Ld Ow
  iintro ⟨⟨%fd, HF⟩, ⟨%W, HO⟩, Hmw⟩ Hk
  iapply (Transfers.wp_waitLocalO EC 𝒱₀ (c : Thread nD τ) none () hNB) $$ [HF HO Hmw]
  · isplitl [HF]; · iexact HF
    isplitl [HO]; · iexact HO
    iexact Hmw
  iintro ⟨⟨HN, HM⟩, Hv, HO⟩
  iapply Hk
  isplitl [HN]
  · iapply (owns_landed c c M N h fd f _ rfl) $$ HN
  isplitl [HM]; · rw [← hsM]; iexact HM
  isplitl [Hv]; · iexact Hv
  iexists _; iexact HO

/-! ## Keys and values of a batch -/

/-- The half share a slot's copies read the argument arrays at. -/
def hs (s : Fin 2) : PosShare TreeShare := if s.val = 0 then fullShare.left else fullShare.right

abbrev kMem (c : Dev nD) : Buf (Elt F) ((c : Thread nD τ).loc main_arg1) := m ((c : Thread nD τ).loc main_arg1)
abbrev vMem (c : Dev nD) : Buf (Elt F) ((c : Thread nD τ).loc main_arg2) := m ((c : Thread nD τ).loc main_arg2)

abbrev KW (c : Dev nD) (b : Fin 4) : Memref sig .tc .hbm S1x1024x8x128 .f32 := KM.slice (rKV c b) (fun _ => rfl)
abbrev VW (c : Dev nD) (b : Fin 4) : Memref sig .tc .hbm S1x1024x8x128 .f32 := VM.slice (rKV c b) (fun _ => rfl)
abbrev kW (s : Fin 2) : Memref sig .tc .vmem S1x1024x8x128 .f32 := kM.slice (rK s) (fun _ => rfl)
abbrev vW (s : Fin 2) : Memref sig .tc .vmem S1x1024x8x128 .f32 := vM.slice (rK s) (fun _ => rfl)

def NK : ℕ := (kS 0).view.dmaCredit
theorem NK_pos : 0 < NK := by decide

/-- A slot's half of the two argument arrays. -/
def args (c : Dev nD) (s : Fin 2) : sProp 𝕄 :=
  iprop((((c : Thread nD τ).loc main_arg1) ↦[Finset.univ]{hs s} kMem m c) ∗ (((c : Thread nD τ).loc main_arg2) ↦[Finset.univ]{hs s} vMem m c))
/-- A slot free to be filled. -/
def free (c : Dev nD) (s : Fin 2) : sProp 𝕄 :=
  iprop((∃ x, kP c s x) ∗ (∃ x, vP c s x) ∗ semVal ((c : Thread nD τ), .dma (ldS 0 s)) 0 ∗ semVal ((c : Thread nD τ), .dma (ldS 1 s)) 0 ∗ args m c s)
/-- A slot being filled with batch `b`. -/
def filling (c : Dev nD) (b : Fin 4) (s : Fin 2) : sProp 𝕄 :=
  iprop((Ld c (KW c b) (kW s) squeezes_S1x1024x8x128_S1024x8x128 (ldS 0 s) NK (hs s) (kMem m c)
      ∗ (((c : Thread nD τ).loc main_arg1) ↦[Finset.univ \ (KW c b).view.set]{hs s} kMem m c))
    ∗ Ld c (VW c b) (vW s) squeezes_S1x1024x8x128_S1024x8x128 (ldS 1 s) NK (hs s) (vMem m c)
      ∗ (((c : Thread nD τ).loc main_arg2) ↦[Finset.univ \ (VW c b).view.set]{hs s} vMem m c))
/-- A slot filled with batch `b`. -/
def filled (c : Dev nD) (b : Fin 4) (s : Fin 2) : sProp 𝕄 :=
  iprop(kP c s (kB m c b) ∗ vP c s (vB m c b) ∗ semVal ((c : Thread nD τ), .dma (ldS 0 s)) 0 ∗ semVal ((c : Thread nD τ), .dma (ldS 1 s)) 0 ∗ args m c s)

theorem free_of_filled (c : Dev nD) (b : Fin 4) (s : Fin 2) : filled m c b s ⊢ free m c s := by
  unfold filled free
  iintro ⟨Hk, Hv, H⟩
  isplitl [Hk]; · iexists _; iexact Hk
  isplitl [Hv]; · iexists _; iexact Hv
  iexact H

section Rules
variable (c : Dev nD) (b : Fin 4) (s : Fin 2)

theorem wp_startKV (off : Fin 4 → Nat) (ho : ∀ a, off a + S1x1024x8x128.size a ≤ S4x4096x8x128.size a) (hoff : off = offB c b)
    {α : Type} {k : PUnit → PR F α} {Q : α → sProp 𝕄} :
    free m c s ⊢ iprop((filling m c b s -∗ WP c (k ⟨⟩) Q) -∗ WP c (startKV s off ho >>= k) Q) := by
  subst hoff
  unfold startKV free args filling
  simp only [Prog.lift, Prog.bind_op, Prog.bind_ret, Prog.pure_eq_ret]
  iintro ⟨Hk, Hv, Hz0, Hz1, HK, HV⟩ Hc
  ihave HK' := (pointsTo_split_subset (Finset.subset_univ (KW c b).view.set)).1 $$ HK
  icases HK' with ⟨HK1, HK2⟩
  ihave HV' := (pointsTo_split_subset (Finset.subset_univ (VW c b).view.set)).1 $$ HV
  icases HV' with ⟨HV1, HV2⟩
  iapply (wp_ld_start c (KW c b) (kW s) squeezes_S1x1024x8x128_S1024x8x128 (ldS 0 s) NK rfl NK_pos (hs s) (kMem m c)) $$ [Hk Hz0 HK1]
  · isplitl [HK1]; · iexact HK1
    isplitl [Hk]; · iexact Hk
    iexact Hz0
  iintro HL0
  iapply (wp_ld_start c (VW c b) (vW s) squeezes_S1x1024x8x128_S1024x8x128 (ldS 1 s) NK rfl NK_pos (hs s) (vMem m c)) $$ [Hv Hz1 HV1]
  · isplitl [HV1]; · iexact HV1
    isplitl [Hv]; · iexact Hv
    iexact Hz1
  iintro HL1
  iapply Hc
  isplitl [HL0 HK2]
  · isplitl [HL0]; · iexact HL0
    iexact HK2
  isplitl [HL1]; · iexact HL1
  iexact HV2

theorem xlev_pos (b : Fin 4) (r : Fin 3) : 0 < xlev b r := Nat.succ_pos _

theorem wp_waitKV (off : Fin 4 → Nat) (ho : ∀ a, off a + S1x1024x8x128.size a ≤ S4x4096x8x128.size a) (hoff : off = offB c b)
    (l : List (Fin 4 × Fin 3)) {α : Type} {k : PUnit → PR F α} {Q : α → sProp 𝕄} :
    iprop(levAts L lv ∗ filling m c b s ∗ Ow c (owedL c l))
      ⊢ iprop(((filled m c b s ∗ Ow c (owedL c l)) -∗ WP c (k ⟨⟩) Q) -∗ WP c (waitKV s off ho >>= k) Q) := by
  subst hoff
  unfold waitKV filled args filling
  simp only [Prog.lift, Prog.bind_op, Prog.bind_ret, Prog.pure_eq_ret]
  iintro ⟨#Hlev, ⟨⟨HL0, HK2⟩, HL1, HV2⟩, HO⟩ Hc
  iapply (wp_ld_wait c (KW c b) (kW s) squeezes_S1x1024x8x128_S1024x8x128 (ldS 0 s) NK (hs s) (kMem m c) rfl (owedL c l)) $$ [HL0 HO]
  · isplitl [HL0]; · iexact HL0
    isplitl [HO]; · iexact HO
    iapply (mayWait_of c (.dma (ldS 0 s)) 0 l (le_of_eq (lv_low c _ (ldS_lt 0 s) ())) (fun i _ => xlev_pos i.1 i.2)); iexact Hlev
  iintro ⟨Hk, HK1, Hz0, HO⟩
  iapply (wp_ld_wait c (VW c b) (vW s) squeezes_S1x1024x8x128_S1024x8x128 (ldS 1 s) NK (hs s) (vMem m c) rfl (owedL c l)) $$ [HL1 HO]
  · isplitl [HL1]; · iexact HL1
    isplitl [HO]; · iexact HO
    iapply (mayWait_of c (.dma (ldS 1 s)) 0 l (le_of_eq (lv_low c _ (ldS_lt 1 s) ())) (fun i _ => xlev_pos i.1 i.2)); iexact Hlev
  iintro ⟨Hv, HV1, Hz1, HO⟩
  iapply Hc
  isplitr [HO]
  · isplitl [Hk]; · iexact Hk
    isplitl [Hv]; · iexact Hv
    isplitl [Hz0]; · iexact Hz0
    isplitl [Hz1]; · iexact Hz1
    isplitl [HK1 HK2]
    · iapply (pointsTo_split_subset (Finset.subset_univ (KW c b).view.set)).2
      isplitl [HK1]; · iexact HK1
      iexact HK2
    · iapply (pointsTo_split_subset (Finset.subset_univ (VW c b).view.set)).2
      isplitl [HV1]; · iexact HV1
      iexact HV2
  iexact HO

theorem wp_compute {α : Type} {k : PUnit → PR F α} {Q : α → sProp 𝕄} :
    iprop(qP' c b (qB m ρ c b) ∗ filled m c b s ∗ (∃ x, aP c b x) ∗ ∃ x, lP' c b x)
      ⊢ iprop(((qP' c b (qB m ρ c b) ∗ filled m c b s ∗ acc m ρ c b 0) -∗ WP c (k ⟨⟩) Q) -∗ WP c (compute b s >>= k) Q) := by
  unfold compute filled acc
  simp only [Prog.lift, Prog.bind_op, Prog.bind_ret, Prog.pure_eq_ret, Prog.bind_assoc]
  iintro ⟨Hq, ⟨Hk, Hv, Hrest⟩, ⟨%x, Ha⟩, ⟨%y, Hl⟩⟩ Hc
  iapply (wp_load_owns c qM (rA b) (fun _ => rfl) _) $$ Hq; iintro Hq
  iapply (wp_load_owns c kM (rK s) (fun _ => rfl) _) $$ Hk; iintro Hk
  iapply (wp_load_owns c vM (rK s) (fun _ => rfl) _) $$ Hv; iintro Hv
  iapply (wp_head c b 0 _ _) $$ Ha; iintro Ha
  iapply (wp_head c b 1 _ _) $$ Ha; iintro Ha
  iapply (wp_head c b 2 _ _) $$ Ha; iintro Ha
  iapply (wp_head c b 3 _ _) $$ Ha; iintro Ha
  iapply (wp_head c b 4 _ _) $$ Ha; iintro Ha
  iapply (wp_head c b 5 _ _) $$ Ha; iintro Ha
  iapply (wp_head c b 6 _ _) $$ Ha; iintro Ha
  iapply (wp_head c b 7 _ _) $$ Ha; iintro Ha
  rw [putH_all]
  iapply (wp_load_owns c lM (rL b) (fun _ => rfl) _) $$ Hl; iintro Hl
  iapply (wp_store_owns c lM (rL b) (fun _ => rfl) rfl _) $$ Hl; iintro Hl
  iapply Hc
  isplitl [Hq]; · iexact Hq
  isplitl [Hk Hv Hrest]
  · isplitl [Hk]; · iexact Hk
    isplitl [Hv]; · iexact Hv
    iexact Hrest
  isplitl [Ha]; · iexact Ha
  iexact Hl

variable (r : Fin 3)

/-- A batch's first part: its keys and values arrive, its partial sums are computed and sent in the first exchange. -/
theorem wp_first (off : Fin 4 → Nat) (ho : ∀ a, off a + S1x1024x8x128.size a ≤ S4x4096x8x128.size a) (hoff : off = offB c b)
    (n n' : Dev nD) (hn : n = peer 0 c) (hn' : n' = peer 0 c) (l : List (Fin 4 × Fin 3)) {α : Type} {k : PUnit → PR F α} {Q : α → sProp 𝕄} :
    iprop(records m ρ K ∗ levAts L lv ∗ filling m c b s ∗ qP' c b (qB m ρ c b) ∗ ((∃ x, aP c b x) ∗ ∃ x, lP' c b x) ∗ Pre c b 0 ∗ Ow c (owedL c ((b, 0) :: l)))
      ⊢ iprop(((free m c s ∗ qP' c b (qB m ρ c b) ∗ acc m ρ c b 0 ∗ Sent c b 0 ∗ Ow c (owedL c l)) -∗ WP c (k ⟨⟩) Q)
        -∗ WP c (waitKV s off ho >>= fun _ => compute b s >>= fun _ => pack b 0 >>= fun _ => send b 0 n n' >>= k) Q) := by
  unfold Pre
  iintro ⟨#HR, #Hlev, HF, Hq, ⟨Ha, Hl⟩, ⟨Hs, Hd, Ht, Hw⟩, HO⟩ Hc
  iapply (wp_waitKV m c b s off ho hoff ((b, 0) :: l)) $$ [HF HO]
  · isplitr; · iexact Hlev
    isplitl [HF]; · iexact HF
    iexact HO
  iintro ⟨HF, HO⟩
  iapply (wp_compute m ρ c b s) $$ [HF Hq Ha Hl]
  · isplitl [Hq]; · iexact Hq
    isplitl [HF]; · iexact HF
    isplitl [Ha]; · iexact Ha
    iexact Hl
  unfold acc
  iintro ⟨Hq, HF, Ha, Hl⟩
  iapply (wp_pack c b 0 _ _) $$ [Ha Hl Hs]
  · isplitl [Ha]; · iexact Ha
    isplitl [Hl]; · iexact Hl
    iexact Hs
  iintro ⟨Ha, Hl, Hs, Hs'⟩
  iapply (wp_send m ρ K c b 0 n n' hn hn' l) $$ [Hs Hs' Hd Ht Hw HO]
  · isplitr; · iexact HR
    isplitl [Hs]; · iexact Hs
    isplitl [Hs']; · iexact Hs'
    isplitl [Hd]; · iexact Hd
    isplitl [Ht]; · iexact Ht
    isplitl [Hw]; · iexact Hw
    iexact HO
  iintro ⟨HS, HO⟩
  iapply Hc
  isplitl [HF]; · iapply (free_of_filled m c b s) $$ HF
  isplitl [Hq]; · iexact Hq
  isplitl [Ha Hl]
  · isplitl [Ha]; · iexact Ha
    iexact Hl
  isplitl [HS]; · iexact HS
  iexact HO

/-- From one exchange to the next. -/
theorem wp_middle (r' : Fin 3) (hr : r'.val = r.val + 1) (n n' : Dev nD) (hn : n = peer r' c) (hn' : n' = peer r' c) (l : List (Fin 4 × Fin 3))
    (hl : ∀ i ∈ (b, r') :: l, xlev b r < xlev i.1 i.2) {α : Type} {k : PUnit → PR F α} {Q : α → sProp 𝕄} :
    iprop(records m ρ K ∗ levAts L lv ∗ acc m ρ c b r.val ∗ Sent c b r ∗ Pre c b r' ∗ Ow c (owedL c ((b, r') :: l)))
      ⊢ iprop(((acc m ρ c b r'.val ∗ Rcvd c b r ∗ Sent c b r' ∗ Ow c (owedL c l)) -∗ WP c (k ⟨⟩) Q)
        -∗ WP c (middle b r r' n n' >>= k) Q) := by
  unfold middle Pre Rcvd
  simp only [Prog.bind_assoc]
  iintro ⟨#HR, #Hlev, Ha, HS, ⟨Hs, Hd, Ht, Hw⟩, HO⟩ Hc
  iapply (wp_recv m ρ K c b r ((b, r') :: l) hl) $$ [HS HO]
  · isplitr; · iexact HR
    isplitr; · iexact Hlev
    isplitl [HS]; · iexact HS
    iexact HO
  iintro ⟨Hn, Hd', Hre, HO⟩
  iapply (wp_combine m ρ c b r) $$ [Ha Hn Hd']
  · isplitl [Ha]; · iexact Ha
    isplitl [Hn]; · iexact Hn
    iexact Hd'
  rw [← hr]
  unfold acc
  iintro ⟨⟨Ha, Hl⟩, Hsl⟩
  iapply (wp_pack c b r' _ _) $$ [Ha Hl Hs]
  · isplitl [Ha]; · iexact Ha
    isplitl [Hl]; · iexact Hl
    iexact Hs
  iintro ⟨Ha, Hl, Hs, Hs'⟩
  iapply (wp_send m ρ K c b r' n n' hn hn' l) $$ [Hs Hs' Hd Ht Hw HO]
  · isplitr; · iexact HR
    isplitl [Hs]; · iexact Hs
    isplitl [Hs']; · iexact Hs'
    isplitl [Hd]; · iexact Hd
    isplitl [Ht]; · iexact Ht
    isplitl [Hw]; · iexact Hw
    iexact HO
  iintro ⟨HS, HO⟩
  iapply Hc
  isplitl [Ha Hl]
  · isplitl [Ha]; · iexact Ha
    iexact Hl
  isplitl [Hsl Hre]
  · isplitl [Hsl]; · iexact Hsl
    iexact Hre
  isplitl [HS]; · iexact HS
  iexact HO

/-- The last exchange and the quotient. -/
theorem wp_last (l : List (Fin 4 × Fin 3)) (hl : ∀ i ∈ l, xlev b 2 < xlev i.1 i.2) {α : Type} {k : PUnit → PR F α} {Q : α → sProp 𝕄} :
    iprop(records m ρ K ∗ levAts L lv ∗ acc m ρ c b 2 ∗ Sent c b 2 ∗ (∃ x, oP c b x) ∗ Ow c (owedL c l))
      ⊢ iprop(((acc m ρ c b 3 ∗ oP c b (quP (AN m ρ 3 c b) (AD m ρ 3 c b)) ∗ Rcvd c b 2 ∗ Ow c (owedL c l)) -∗ WP c (k ⟨⟩) Q)
        -∗ WP c (last b >>= k) Q) := by
  unfold last Rcvd
  simp only [Prog.bind_assoc]
  iintro ⟨#HR, #Hlev, Ha, HS, Ho, HO⟩ Hc
  iapply (wp_recv m ρ K c b 2 l hl) $$ [HS HO]
  · isplitr; · iexact HR
    isplitr; · iexact Hlev
    isplitl [HS]; · iexact HS
    iexact HO
  iintro ⟨Hn, Hd', Hre, HO⟩
  iapply (wp_combine m ρ c b 2) $$ [Ha Hn Hd']
  · isplitl [Ha]; · iexact Ha
    isplitl [Hn]; · iexact Hn
    iexact Hd'
  iintro ⟨Ha, Hsl⟩
  iapply (wp_finish m ρ c b 3) $$ [Ha Ho]
  · isplitl [Ha]; · iexact Ha
    iexact Ho
  iintro ⟨Ha, Ho⟩
  iapply Hc
  isplitl [Ha]; · iexact Ha
  isplitl [Ho]; · iexact Ho
  isplitl [Hsl Hre]
  · isplitl [Hsl]; · iexact Hsl
    iexact Hre
  iexact HO

end Rules

end Cert.KProof

end
-- ==== Proof.Body.lean ====
/-
# The whole body

From what a device holds when its body starts to what it holds when it ends, in one chain.
-/
module

public import proofs.«01_k».proof.Proof.Phases

@[expose] public section

set_option maxRecDepth 16384
set_option synthInstance.maxSize 4096

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Option XI → ℕ)

/-! ## Where the program's device and offset arithmetic leads -/

theorem peer0 (c : Dev nD) : (peer 0 c).val = (4 * (c.val / 4) + 2 * ((c.val / 2) % 2) + 1) - (c.val % 2) := by revert c; decide
theorem peer1 (c : Dev nD) : (peer 1 c).val = (4 * (c.val / 4) + (c.val % 2) + 2) - 2 * ((c.val / 2) % 2) := by revert c; decide
theorem peer2 (c : Dev nD) : (peer 2 c).val = (2 * ((c.val / 2) % 2) + (c.val % 2) + 4) - 4 * (c.val / 4) := by revert c; decide
theorem to0 {c : Dev nD} {n : ℕ} {h : n < nD} (e : n = (4 * (c.val / 4) + 2 * ((c.val / 2) % 2) + 1) - (c.val % 2)) : (⟨n, h⟩ : Dev nD) = peer 0 c :=
  Fin.ext (e.trans (peer0 c).symm)
theorem to1 {c : Dev nD} {n : ℕ} {h : n < nD} (e : n = (4 * (c.val / 4) + (c.val % 2) + 2) - 2 * ((c.val / 2) % 2)) : (⟨n, h⟩ : Dev nD) = peer 1 c :=
  Fin.ext (e.trans (peer1 c).symm)
theorem to2 {c : Dev nD} {n : ℕ} {h : n < nD} (e : n = (2 * ((c.val / 2) % 2) + (c.val % 2) + 4) - 4 * (c.val / 4)) : (⟨n, h⟩ : Dev nD) = peer 2 c :=
  Fin.ext (e.trans (peer2 c).symm)

/-! ## The sends left -/

abbrev t0 : List (Fin 4 × Fin 3) := []
abbrev t1 : List (Fin 4 × Fin 3) := (3, 2) :: t0
abbrev t2 : List (Fin 4 × Fin 3) := (2, 2) :: t1
abbrev t3 : List (Fin 4 × Fin 3) := (3, 1) :: t2
abbrev t4 : List (Fin 4 × Fin 3) := (1, 2) :: t3
abbrev t5 : List (Fin 4 × Fin 3) := (2, 1) :: t4
abbrev t6 : List (Fin 4 × Fin 3) := (3, 0) :: t5
abbrev t7 : List (Fin 4 × Fin 3) := (0, 2) :: t6
abbrev t8 : List (Fin 4 × Fin 3) := (1, 1) :: t7
abbrev t9 : List (Fin 4 × Fin 3) := (2, 0) :: t8
abbrev t10 : List (Fin 4 × Fin 3) := (0, 1) :: t9
abbrev t11 : List (Fin 4 × Fin 3) := (1, 0) :: t10
theorem order_eq : order = (0, 0) :: t11 := rfl

/-! ## A batch before and after -/

/-- A batch after the barrier: its queries, its buffers, and its three exchanges yet to be sent. -/
def Bat (c : Dev nD) (b : Fin 4) : sProp 𝕄 :=
  iprop(qP' c b (qB m ρ c b) ∗ ((∃ x, aP c b x) ∗ ∃ x, lP' c b x) ∗ (∃ x, oP c b x) ∗ Pre c b 0 ∗ Pre c b 1 ∗ Pre c b 2)
/-- A batch at the end. -/
def BatDone (c : Dev nD) (b : Fin 4) : sProp 𝕄 :=
  iprop(qP' c b (qB m ρ c b) ∗ acc m ρ c b 3 ∗ oP c b (quP (AN m ρ 3 c b) (AD m ρ 3 c b)) ∗ Done c b 0 ∗ Done c b 1 ∗ Done c b 2)

def tail (c : Dev nD) : PR F PUnit := do
  startKV 0 (k0_off1 c) (k0_off1_inb c)
  startKV 1 (k0_off2 c) (k0_off2_inb c)
  waitKV 0 (k0_off1 c) (k0_off1_inb c)
  compute 0 0
  pack 0 0
  send 0 0 ⟨k0_dev4 c, k0_dev4_lt c⟩ ⟨k0_dev5 c, k0_dev5_lt c⟩
  startKV 0 (k0_off3 c) (k0_off3_inb c)
  waitKV 1 (k0_off2 c) (k0_off2_inb c)
  compute 1 1
  pack 1 0
  send 1 0 ⟨k0_dev6 c, k0_dev6_lt c⟩ ⟨k0_dev7 c, k0_dev7_lt c⟩
  middle 0 0 1 ⟨k0_dev8 c, k0_dev8_lt c⟩ ⟨k0_dev9 c, k0_dev9_lt c⟩
  startKV 1 (k0_off4 c) (k0_off4_inb c)
  waitKV 0 (k0_off3 c) (k0_off3_inb c)
  compute 2 0
  pack 2 0
  send 2 0 ⟨k0_dev10 c, k0_dev10_lt c⟩ ⟨k0_dev11 c, k0_dev11_lt c⟩
  middle 1 0 1 ⟨k0_dev12 c, k0_dev12_lt c⟩ ⟨k0_dev13 c, k0_dev13_lt c⟩
  middle 0 1 2 ⟨k0_dev14 c, k0_dev14_lt c⟩ ⟨k0_dev15 c, k0_dev15_lt c⟩
  waitKV 1 (k0_off4 c) (k0_off4_inb c)
  compute 3 1
  pack 3 0
  send 3 0 ⟨k0_dev16 c, k0_dev16_lt c⟩ ⟨k0_dev17 c, k0_dev17_lt c⟩
  middle 2 0 1 ⟨k0_dev18 c, k0_dev18_lt c⟩ ⟨k0_dev19 c, k0_dev19_lt c⟩
  middle 1 1 2 ⟨k0_dev20 c, k0_dev20_lt c⟩ ⟨k0_dev21 c, k0_dev21_lt c⟩
  last 0
  middle 3 0 1 ⟨k0_dev22 c, k0_dev22_lt c⟩ ⟨k0_dev23 c, k0_dev23_lt c⟩
  middle 2 1 2 ⟨k0_dev24 c, k0_dev24_lt c⟩ ⟨k0_dev25 c, k0_dev25_lt c⟩
  last 1
  middle 3 1 2 ⟨k0_dev26 c, k0_dev26_lt c⟩ ⟨k0_dev27 c, k0_dev27_lt c⟩
  last 2
  last 3
  sent 0 0
  sent 1 0
  sent 0 1
  sent 2 0
  sent 1 1
  sent 0 2
  sent 3 0
  sent 2 1
  sent 1 2
  sent 3 1
  sent 2 2
  sent 3 2

theorem body_tail (c : Dev nD) : body (F := F) c = (barrier ![⟨k0_dev1 c, k0_dev1_lt c⟩, ⟨k0_dev2 c, k0_dev2_lt c⟩, ⟨k0_dev3 c, k0_dev3_lt c⟩] >>= fun _ => tail c) := rfl

set_option maxHeartbeats 4000000 in
theorem wp_tail (c : Dev nD) {Q : PUnit → sProp 𝕄} :
    iprop(records m ρ K ∗ levAts L lv ∗ free m c 0 ∗ free m c 1 ∗ Ow c (owedL c order) ∗ Bat m ρ c 0 ∗ Bat m ρ c 1 ∗ Bat m ρ c 2 ∗ Bat m ρ c 3)
      ⊢ iprop(((free m c 0 ∗ free m c 1 ∗ Ow c 0 ∗ BatDone m ρ c 0 ∗ BatDone m ρ c 1 ∗ BatDone m ρ c 2 ∗ BatDone m ρ c 3) -∗ Q ⟨⟩)
        -∗ WP c (tail c >>= fun u => Prog.ret u) Q) := by
  unfold tail Bat BatDone
  rw [order_eq]
  simp only [Prog.bind_assoc]
  iintro ⟨#HR, #Hlev, Hf0, Hf1, HO, ⟨Hq0, Hx0, Ho0, Hp00, Hp01, Hp02⟩, ⟨Hq1, Hx1, Ho1, Hp10, Hp11, Hp12⟩, ⟨Hq2, Hx2, Ho2, Hp20, Hp21, Hp22⟩, ⟨Hq3, Hx3, Ho3, Hp30, Hp31, Hp32⟩⟩ Hk
  iapply (wp_startKV m c 0 0 _ _ (k0_off1_eq c)) $$ Hf0; iintro Hf0
  iapply (wp_startKV m c 1 1 _ _ (k0_off2_eq c)) $$ Hf1; iintro Hf1
  iapply (wp_first m ρ K c 0 0 _ _ (k0_off1_eq c) _ _ (to0 (k0_dev4_eq c)) (to0 (k0_dev5_eq c)) t11) $$ [Hf0 Hq0 Hx0 Hp00 HO]
  · isplitr; · iexact HR
    isplitr; · iexact Hlev
    isplitl [Hf0]; · iexact Hf0
    isplitl [Hq0]; · iexact Hq0
    isplitl [Hx0]; · iexact Hx0
    isplitl [Hp00]; · iexact Hp00
    iexact HO
  iintro ⟨Hf0, Hq0, Ha0, Hp00, HO⟩
  iapply (wp_startKV m c 2 0 _ _ (k0_off3_eq c)) $$ Hf0; iintro Hf0
  iapply (wp_first m ρ K c 1 1 _ _ (k0_off2_eq c) _ _ (to0 (k0_dev6_eq c)) (to0 (k0_dev7_eq c)) t10) $$ [Hf1 Hq1 Hx1 Hp10 HO]
  · isplitr; · iexact HR
    isplitr; · iexact Hlev
    isplitl [Hf1]; · iexact Hf1
    isplitl [Hq1]; · iexact Hq1
    isplitl [Hx1]; · iexact Hx1
    isplitl [Hp10]; · iexact Hp10
    iexact HO
  iintro ⟨Hf1, Hq1, Ha1, Hp10, HO⟩
  iapply (wp_middle m ρ K c 0 0 1 rfl _ _ (to1 (k0_dev8_eq c)) (to1 (k0_dev9_eq c)) t9 (by decide)) $$ [Ha0 Hp00 Hp01 HO]
  · isplitr; · iexact HR
    isplitr; · iexact Hlev
    isplitl [Ha0]; · iexact Ha0
    isplitl [Hp00]; · iexact Hp00
    isplitl [Hp01]; · iexact Hp01
    iexact HO
  iintro ⟨Ha0, Hp00, Hp01, HO⟩
  iapply (wp_startKV m c 3 1 _ _ (k0_off4_eq c)) $$ Hf1; iintro Hf1
  iapply (wp_first m ρ K c 2 0 _ _ (k0_off3_eq c) _ _ (to0 (k0_dev10_eq c)) (to0 (k0_dev11_eq c)) t8) $$ [Hf0 Hq2 Hx2 Hp20 HO]
  · isplitr; · iexact HR
    isplitr; · iexact Hlev
    isplitl [Hf0]; · iexact Hf0
    isplitl [Hq2]; · iexact Hq2
    isplitl [Hx2]; · iexact Hx2
    isplitl [Hp20]; · iexact Hp20
    iexact HO
  iintro ⟨Hf0, Hq2, Ha2, Hp20, HO⟩
  iapply (wp_middle m ρ K c 1 0 1 rfl _ _ (to1 (k0_dev12_eq c)) (to1 (k0_dev13_eq c)) t7 (by decide)) $$ [Ha1 Hp10 Hp11 HO]
  · isplitr; · iexact HR
    isplitr; · iexact Hlev
    isplitl [Ha1]; · iexact Ha1
    isplitl [Hp10]; · iexact Hp10
    isplitl [Hp11]; · iexact Hp11
    iexact HO
  iintro ⟨Ha1, Hp10, Hp11, HO⟩
  iapply (wp_middle m ρ K c 0 1 2 rfl _ _ (to2 (k0_dev14_eq c)) (to2 (k0_dev15_eq c)) t6 (by decide)) $$ [Ha0 Hp01 Hp02 HO]
  · isplitr; · iexact HR
    isplitr; · iexact Hlev
    isplitl [Ha0]; · iexact Ha0
    isplitl [Hp01]; · iexact Hp01
    isplitl [Hp02]; · iexact Hp02
    iexact HO
  iintro ⟨Ha0, Hp01, Hp02, HO⟩
  iapply (wp_first m ρ K c 3 1 _ _ (k0_off4_eq c) _ _ (to0 (k0_dev16_eq c)) (to0 (k0_dev17_eq c)) t5) $$ [Hf1 Hq3 Hx3 Hp30 HO]
  · isplitr; · iexact HR
    isplitr; · iexact Hlev
    isplitl [Hf1]; · iexact Hf1
    isplitl [Hq3]; · iexact Hq3
    isplitl [Hx3]; · iexact Hx3
    isplitl [Hp30]; · iexact Hp30
    iexact HO
  iintro ⟨Hf1, Hq3, Ha3, Hp30, HO⟩
  iapply (wp_middle m ρ K c 2 0 1 rfl _ _ (to1 (k0_dev18_eq c)) (to1 (k0_dev19_eq c)) t4 (by decide)) $$ [Ha2 Hp20 Hp21 HO]
  · isplitr; · iexact HR
    isplitr; · iexact Hlev
    isplitl [Ha2]; · iexact Ha2
    isplitl [Hp20]; · iexact Hp20
    isplitl [Hp21]; · iexact Hp21
    iexact HO
  iintro ⟨Ha2, Hp20, Hp21, HO⟩
  iapply (wp_middle m ρ K c 1 1 2 rfl _ _ (to2 (k0_dev20_eq c)) (to2 (k0_dev21_eq c)) t3 (by decide)) $$ [Ha1 Hp11 Hp12 HO]
  · isplitr; · iexact HR
    isplitr; · iexact Hlev
    isplitl [Ha1]; · iexact Ha1
    isplitl [Hp11]; · iexact Hp11
    isplitl [Hp12]; · iexact Hp12
    iexact HO
  iintro ⟨Ha1, Hp11, Hp12, HO⟩
  iapply (wp_last m ρ K c 0 t3 (by decide)) $$ [Ha0 Hp02 Ho0 HO]
  · isplitr; · iexact HR
    isplitr; · iexact Hlev
    isplitl [Ha0]; · iexact Ha0
    isplitl [Hp02]; · iexact Hp02
    isplitl [Ho0]; · iexact Ho0
    iexact HO
  iintro ⟨Ha0, Ho0, Hp02, HO⟩
  iapply (wp_middle m ρ K c 3 0 1 rfl _ _ (to1 (k0_dev22_eq c)) (to1 (k0_dev23_eq c)) t2 (by decide)) $$ [Ha3 Hp30 Hp31 HO]
  · isplitr; · iexact HR
    isplitr; · iexact Hlev
    isplitl [Ha3]; · iexact Ha3
    isplitl [Hp30]; · iexact Hp30
    isplitl [Hp31]; · iexact Hp31
    iexact HO
  iintro ⟨Ha3, Hp30, Hp31, HO⟩
  iapply (wp_middle m ρ K c 2 1 2 rfl _ _ (to2 (k0_dev24_eq c)) (to2 (k0_dev25_eq c)) t1 (by decide)) $$ [Ha2 Hp21 Hp22 HO]
  · isplitr; · iexact HR
    isplitr; · iexact Hlev
    isplitl [Ha2]; · iexact Ha2
    isplitl [Hp21]; · iexact Hp21
    isplitl [Hp22]; · iexact Hp22
    iexact HO
  iintro ⟨Ha2, Hp21, Hp22, HO⟩
  iapply (wp_last m ρ K c 1 t1 (by decide)) $$ [Ha1 Hp12 Ho1 HO]
  · isplitr; · iexact HR
    isplitr; · iexact Hlev
    isplitl [Ha1]; · iexact Ha1
    isplitl [Hp12]; · iexact Hp12
    isplitl [Ho1]; · iexact Ho1
    iexact HO
  iintro ⟨Ha1, Ho1, Hp12, HO⟩
  iapply (wp_middle m ρ K c 3 1 2 rfl _ _ (to2 (k0_dev26_eq c)) (to2 (k0_dev27_eq c)) t0 (by decide)) $$ [Ha3 Hp31 Hp32 HO]
  · isplitr; · iexact HR
    isplitr; · iexact Hlev
    isplitl [Ha3]; · iexact Ha3
    isplitl [Hp31]; · iexact Hp31
    isplitl [Hp32]; · iexact Hp32
    iexact HO
  iintro ⟨Ha3, Hp31, Hp32, HO⟩
  iapply (wp_last m ρ K c 2 t0 (by decide)) $$ [Ha2 Hp22 Ho2 HO]
  · isplitr; · iexact HR
    isplitr; · iexact Hlev
    isplitl [Ha2]; · iexact Ha2
    isplitl [Hp22]; · iexact Hp22
    isplitl [Ho2]; · iexact Ho2
    iexact HO
  iintro ⟨Ha2, Ho2, Hp22, HO⟩
  iapply (wp_last m ρ K c 3 t0 (by decide)) $$ [Ha3 Hp32 Ho3 HO]
  · isplitr; · iexact HR
    isplitr; · iexact Hlev
    isplitl [Ha3]; · iexact Ha3
    isplitl [Hp32]; · iexact Hp32
    isplitl [Ho3]; · iexact Ho3
    iexact HO
  iintro ⟨Ha3, Ho3, Hp32, HO⟩
  rw [show owedL c t0 = 0 from rfl]
  iapply (wp_sent m ρ K c 0 0) $$ [Hp00 HO]
  · isplitr; · iexact HR
    isplitl [Hp00]; · iexact Hp00
    iexact HO
  iintro ⟨Hp00, HO⟩
  iapply (wp_sent m ρ K c 1 0) $$ [Hp10 HO]
  · isplitr; · iexact HR
    isplitl [Hp10]; · iexact Hp10
    iexact HO
  iintro ⟨Hp10, HO⟩
  iapply (wp_sent m ρ K c 0 1) $$ [Hp01 HO]
  · isplitr; · iexact HR
    isplitl [Hp01]; · iexact Hp01
    iexact HO
  iintro ⟨Hp01, HO⟩
  iapply (wp_sent m ρ K c 2 0) $$ [Hp20 HO]
  · isplitr; · iexact HR
    isplitl [Hp20]; · iexact Hp20
    iexact HO
  iintro ⟨Hp20, HO⟩
  iapply (wp_sent m ρ K c 1 1) $$ [Hp11 HO]
  · isplitr; · iexact HR
    isplitl [Hp11]; · iexact Hp11
    iexact HO
  iintro ⟨Hp11, HO⟩
  iapply (wp_sent m ρ K c 0 2) $$ [Hp02 HO]
  · isplitr; · iexact HR
    isplitl [Hp02]; · iexact Hp02
    iexact HO
  iintro ⟨Hp02, HO⟩
  iapply (wp_sent m ρ K c 3 0) $$ [Hp30 HO]
  · isplitr; · iexact HR
    isplitl [Hp30]; · iexact Hp30
    iexact HO
  iintro ⟨Hp30, HO⟩
  iapply (wp_sent m ρ K c 2 1) $$ [Hp21 HO]
  · isplitr; · iexact HR
    isplitl [Hp21]; · iexact Hp21
    iexact HO
  iintro ⟨Hp21, HO⟩
  iapply (wp_sent m ρ K c 1 2) $$ [Hp12 HO]
  · isplitr; · iexact HR
    isplitl [Hp12]; · iexact Hp12
    iexact HO
  iintro ⟨Hp12, HO⟩
  iapply (wp_sent m ρ K c 3 1) $$ [Hp31 HO]
  · isplitr; · iexact HR
    isplitl [Hp31]; · iexact Hp31
    iexact HO
  iintro ⟨Hp31, HO⟩
  iapply (wp_sent m ρ K c 2 2) $$ [Hp22 HO]
  · isplitr; · iexact HR
    isplitl [Hp22]; · iexact Hp22
    iexact HO
  iintro ⟨Hp22, HO⟩
  iapply (wp_sent m ρ K c 3 2) $$ [Hp32 HO]
  · isplitr; · iexact HR
    isplitl [Hp32]; · iexact Hp32
    iexact HO
  iintro ⟨Hp32, HO⟩
  unfold WP
  rw [wp_ret]
  imodintro
  iapply Hk
  isplitl [Hf0]; · iexact Hf0
  isplitl [Hf1]; · iexact Hf1
  isplitl [HO]; · iexact HO
  isplitl [Hq0 Ha0 Ho0 Hp00 Hp01 Hp02]
  · isplitl [Hq0]; · iexact Hq0
    isplitl [Ha0]; · iexact Ha0
    isplitl [Ho0]; · iexact Ho0
    isplitl [Hp00]; · iexact Hp00
    isplitl [Hp01]; · iexact Hp01
    iexact Hp02
  isplitl [Hq1 Ha1 Ho1 Hp10 Hp11 Hp12]
  · isplitl [Hq1]; · iexact Hq1
    isplitl [Ha1]; · iexact Ha1
    isplitl [Ho1]; · iexact Ho1
    isplitl [Hp10]; · iexact Hp10
    isplitl [Hp11]; · iexact Hp11
    iexact Hp12
  isplitl [Hq2 Ha2 Ho2 Hp20 Hp21 Hp22]
  · isplitl [Hq2]; · iexact Hq2
    isplitl [Ha2]; · iexact Ha2
    isplitl [Ho2]; · iexact Ho2
    isplitl [Hp20]; · iexact Hp20
    isplitl [Hp21]; · iexact Hp21
    iexact Hp22
  isplitl [Hq3]; · iexact Hq3
  isplitl [Ha3]; · iexact Ha3
  isplitl [Ho3]; · iexact Ho3
  isplitl [Hp30]; · iexact Hp30
  isplitl [Hp31]; · iexact Hp31
  iexact Hp32

end Cert.KProof

end
-- ==== Proof.Buffers.lean ====
/-
# Buffers cut into slots and joined again

A scratch buffer held whole at some contents is each of its slots held at some contents, and back.
-/
module

public import proofs.«01_k».proof.Proof.Body

@[expose] public section

set_option maxRecDepth 16384
set_option synthInstance.maxSize 4096

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Option XI → ℕ)

omit [FloatOps F] in
theorem fin3 (Φ : Fin 3 → sProp 𝕄) : bigSep Finset.univ Φ = iprop(Φ 0 ∗ Φ 1 ∗ Φ 2) := bigSep_univ_eq_bigSepL [0, 1, 2] (by decide) (by decide) Φ
omit [FloatOps F] in
theorem fin4 (Φ : Fin 4 → sProp 𝕄) : bigSep Finset.univ Φ = iprop(Φ 0 ∗ Φ 1 ∗ Φ 2 ∗ Φ 3) := bigSep_univ_eq_bigSepL [0, 1, 2, 3] (by decide) (by decide) Φ

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A buffer held whole at some contents. -/
abbrev held (c : Dev nD) (b : Ref sig .tc) : sProp 𝕄 :=
  iprop(∃ f : Buf (Elt F) ((c : Thread nD τ).loc b), ((c : Thread nD τ).loc b) ↦{fullShare} f)

/-! ## The slots cover their buffers and are disjoint -/

section Cover

variable {s : Shape} {T : Type} [Fintype T] (off : T → Fin s.rank → Nat) (size : Fin s.rank → Nat) (inb : ∀ t a, off t a + size a ≤ s.size a)

theorem disj_of (h : ∀ t t', t ≠ t' → ∃ a, off t a + size a ≤ off t' a ∨ off t' a + size a ≤ off t a) (t t' : T) (hne : t ≠ t') :
    Disjoint (Rect.unit (s := s) (off t) size (inb t)).set (Rect.unit (s := s) (off t') size (inb t')).set := by
  obtain ⟨a, ha⟩ := h t t' hne
  exact Rect.unit_disjoint a ha

theorem cover_of (f : s.Idx → T) (h : ∀ i a, off (f i) a ≤ (i a).val ∧ (i a).val < off (f i) a + size a) :
    (Finset.univ : Finset T).biUnion (fun t => (Rect.unit (s := s) (off t) size (inb t)).set) = Finset.univ :=
  Finset.eq_univ_iff_forall.mpr fun i => Finset.mem_biUnion.mpr ⟨f i, Finset.mem_univ _, Rect.mem_set_unit.mpr (h i)⟩

end Cover

theorem dA : ∀ t t' : Fin 4, t ≠ t' → Disjoint (rA t).set (rA t').set :=
  disj_of (s := S4x32x8x128) (fun b : Fin 4 => ![b.val, 0, 0, 0]) S1x32x8x128.size inbA fun t t' h => ⟨0, by revert t t'; decide⟩
theorem cA : (Finset.univ : Finset (Fin 4)).biUnion (fun t => (rA t).set) = Finset.univ :=
  cover_of (s := S4x32x8x128) (fun b : Fin 4 => ![b.val, 0, 0, 0]) S1x32x8x128.size inbA (fun i => i 0)
    fun i a => by
      match a with
      | 0 => exact ⟨Nat.le_refl _, Nat.lt_succ_self _⟩
      | 1 => exact ⟨Nat.zero_le _, by have : (i 1).val < 32 := (i 1).isLt; show (i 1).val < 0 + 32; omega⟩
      | 2 => exact ⟨Nat.zero_le _, by have : (i 2).val < 8 := (i 2).isLt; show (i 2).val < 0 + 8; omega⟩
      | 3 => exact ⟨Nat.zero_le _, by have : (i 3).val < 128 := (i 3).isLt; show (i 3).val < 0 + 128; omega⟩
theorem dL : ∀ t t' : Fin 4, t ≠ t' → Disjoint (rL t).set (rL t').set :=
  disj_of (s := S4x32x8) (fun b : Fin 4 => ![b.val, 0, 0]) S1x32x8.size inbL fun t t' h => ⟨0, by revert t t'; decide⟩
theorem cL : (Finset.univ : Finset (Fin 4)).biUnion (fun t => (rL t).set) = Finset.univ :=
  cover_of (s := S4x32x8) (fun b : Fin 4 => ![b.val, 0, 0]) S1x32x8.size inbL (fun i => i 0)
    fun i a => by
      match a with
      | 0 => exact ⟨Nat.le_refl _, Nat.lt_succ_self _⟩
      | 1 => exact ⟨Nat.zero_le _, by have : (i 1).val < 32 := (i 1).isLt; show (i 1).val < 0 + 32; omega⟩
      | 2 => exact ⟨Nat.zero_le _, by have : (i 2).val < 8 := (i 2).isLt; show (i 2).val < 0 + 8; omega⟩
theorem dX : ∀ t t' : Fin 4 × Fin 3, t ≠ t' → Disjoint (rX t.1 t.2).set (rX t'.1 t'.2).set :=
  disj_of (s := S4x3x32x8x128) (fun t : Fin 4 × Fin 3 => ![t.1.val, t.2.val, 0, 0, 0]) S1x1x32x8x128.size (fun t => inbX t.1 t.2)
    (by decide)
theorem cX : (Finset.univ : Finset (Fin 4 × Fin 3)).biUnion (fun t => (rX t.1 t.2).set) = Finset.univ :=
  cover_of (s := S4x3x32x8x128) (fun t : Fin 4 × Fin 3 => ![t.1.val, t.2.val, 0, 0, 0]) S1x1x32x8x128.size (fun t => inbX t.1 t.2) (fun i => (i 0, i 1))
    fun i a => by
      match a with
      | 0 => exact ⟨Nat.le_refl _, Nat.lt_succ_self _⟩
      | 1 => exact ⟨Nat.le_refl _, Nat.lt_succ_self _⟩
      | 2 => exact ⟨Nat.zero_le _, by have : (i 2).val < 32 := (i 2).isLt; show (i 2).val < 0 + 32; omega⟩
      | 3 => exact ⟨Nat.zero_le _, by have : (i 3).val < 8 := (i 3).isLt; show (i 3).val < 0 + 8; omega⟩
      | 4 => exact ⟨Nat.zero_le _, by have : (i 4).val < 128 := (i 4).isLt; show (i 4).val < 0 + 128; omega⟩
theorem dY : ∀ t t' : Fin 4 × Fin 3, t ≠ t' → Disjoint (rY t.1 t.2).set (rY t'.1 t'.2).set :=
  disj_of (s := S4x3x32x8) (fun t : Fin 4 × Fin 3 => ![t.1.val, t.2.val, 0, 0]) S1x1x32x8.size (fun t => inbY t.1 t.2)
    (by decide)
theorem cY : (Finset.univ : Finset (Fin 4 × Fin 3)).biUnion (fun t => (rY t.1 t.2).set) = Finset.univ :=
  cover_of (s := S4x3x32x8) (fun t : Fin 4 × Fin 3 => ![t.1.val, t.2.val, 0, 0]) S1x1x32x8.size (fun t => inbY t.1 t.2) (fun i => (i 0, i 1))
    fun i a => by
      match a with
      | 0 => exact ⟨Nat.le_refl _, Nat.lt_succ_self _⟩
      | 1 => exact ⟨Nat.le_refl _, Nat.lt_succ_self _⟩
      | 2 => exact ⟨Nat.zero_le _, by have : (i 2).val < 32 := (i 2).isLt; show (i 2).val < 0 + 32; omega⟩
      | 3 => exact ⟨Nat.zero_le _, by have : (i 3).val < 8 := (i 3).isLt; show (i 3).val < 0 + 8; omega⟩
theorem dK : ∀ t t' : Fin 2, t ≠ t' → Disjoint (rK t).set (rK t').set :=
  disj_of (s := S2x1024x8x128) (fun b : Fin 2 => ![b.val, 0, 0, 0]) S1x1024x8x128.size inbK fun t t' h => ⟨0, by revert t t'; decide⟩
theorem cK : (Finset.univ : Finset (Fin 2)).biUnion (fun t => (rK t).set) = Finset.univ :=
  cover_of (s := S2x1024x8x128) (fun b : Fin 2 => ![b.val, 0, 0, 0]) S1x1024x8x128.size inbK (fun i => i 0)
    fun i a => by
      match a with
      | 0 => exact ⟨Nat.le_refl _, Nat.lt_succ_self _⟩
      | 1 => exact ⟨Nat.zero_le _, by have : (i 1).val < 1024 := (i 1).isLt; show (i 1).val < 0 + 1024; omega⟩
      | 2 => exact ⟨Nat.zero_le _, by have : (i 2).val < 8 := (i 2).isLt; show (i 2).val < 0 + 8; omega⟩
      | 3 => exact ⟨Nat.zero_le _, by have : (i 3).val < 128 := (i 3).isLt; show (i 3).val < 0 + 128; omega⟩

/-! ## Cutting and joining -/

omit [FloatOps F] in
theorem some_intro {α : Type} {Φ : α → sProp 𝕄} (x : α) : Φ x ⊢ iprop(∃ x, Φ x) := by
  iintro H; iexists x; iexact H

section Cut

variable {T : Type} [Fintype T] [DecidableEq T] (c : Dev nD) (b : Ref sig .tc) (r : T → Rect b.ty.shape) (hr : ∀ t a, (r t).stride a = 1)
  (hd : ∀ t t', t ≠ t' → Disjoint (r t).set (r t').set)
  (hcov : (Finset.univ : Finset T).biUnion (fun t => (r t).set) = Finset.univ)

include hd hcov in
theorem cut :
    held c b ⊢ (bigSep Finset.univ fun t => iprop(∃ x, owns (c : Thread nD τ) ((Memref.whole b).slice (r t) (hr t)) fullShare x) : sProp 𝕄) := by
  have h1 : ∀ f : Buf (Elt F) ((c : Thread nD τ).loc b), (((c : Thread nD τ).loc b) ↦{fullShare} f : sProp 𝕄) ⊢ owns (c : Thread nD τ) (Memref.whole b) fullShare f := fun f => by
    rw [owns_whole_eq]; iintro H; iexists f; isplitr
    · ipureintro; rfl
    iexact H
  have h2 : ∀ f : b.ty.shape.Idx → Elt F b.ty.elt,
      (bigSep Finset.univ fun t => owns (c : Thread nD τ) ((Memref.whole b).slice (r t) (hr t)) fullShare (fun j => f ((r t).emb j)) : sProp 𝕄)
        ⊢ bigSep Finset.univ fun t => iprop(∃ x, owns (c : Thread nD τ) ((Memref.whole b).slice (r t) (hr t)) fullShare x) :=
    fun f => bigSep_mono fun t _ => some_intro (Φ := fun x => owns (c : Thread nD τ) ((Memref.whole b).slice (r t) (hr t)) fullShare x) _
  iintro ⟨%f, H⟩
  iapply (h2 f)
  iapply (owns_rects (c : Thread nD τ) (Memref.whole b) fullShare r hr hd hcov f)
  iapply (h1 f); iexact H

include hd hcov in
theorem glue_at (X : b.ty.shape.Idx → Elt F b.ty.elt) :
    (bigSep Finset.univ fun t => owns (c : Thread nD τ) ((Memref.whole b).slice (r t) (hr t)) fullShare (fun j => X ((r t).emb j)) : sProp 𝕄)
      ⊢ owns (c : Thread nD τ) (Memref.whole b) fullShare X :=
  owns_of_rects (c : Thread nD τ) (Memref.whole b) fullShare r hr hd hcov X

include hd hcov in
theorem glue :
    (bigSep Finset.univ fun t => iprop(∃ x, owns (c : Thread nD τ) ((Memref.whole b).slice (r t) (hr t)) fullShare x) : sProp 𝕄) ⊢ held c b := by
  classical
  refine (Idealize.SL.BI.bigSep_exists_pi Finset.univ (fun t x => (owns (c : Thread nD τ) ((Memref.whole b).slice (r t) (hr t)) fullShare x : sProp 𝕄))).trans ?_
  have hex : ∀ i : b.ty.shape.Idx, ∃ p : (t : T) × (r t).shape.Idx, (r p.1).emb p.2 = i := fun i => by
    obtain ⟨t, -, hx⟩ := Finset.mem_biUnion.mp (hcov.symm ▸ Finset.mem_univ i)
    rw [← Rect.map_emb_univ, Finset.mem_map] at hx
    obtain ⟨j, -, h⟩ := hx
    exact ⟨⟨t, j⟩, h⟩
  have huniq : ∀ p q : (t : T) × (r t).shape.Idx, (r p.1).emb p.2 = (r q.1).emb q.2 → p = q := fun ⟨t, j⟩ ⟨t', j'⟩ h => by
    have ht : t = t' := by
      by_contra hne
      have h1 : (r t).emb j ∈ (r t).set := by
        rw [← Rect.map_emb_univ]; exact Finset.mem_map_of_mem _ (Finset.mem_univ j)
      have h2 : (r t).emb j ∈ (r t').set := by
        rw [show (r t).emb j = (r t').emb j' from h, ← Rect.map_emb_univ]; exact Finset.mem_map_of_mem _ (Finset.mem_univ j')
      exact absurd h2 (Finset.disjoint_left.mp (hd t t' hne) h1)
    subst ht
    exact congrArg (Sigma.mk t) ((r t).emb.injective h)
  iintro ⟨%x, H⟩
  have hX : ∀ t, (x t) = fun j => (fun i => x (hex i).choose.1 (hex i).choose.2) ((r t).emb j) := fun t => funext fun j => by
    have h := huniq _ ⟨t, j⟩ (hex ((r t).emb j)).choose_spec
    show x t j = x (hex ((r t).emb j)).choose.1 (hex ((r t).emb j)).choose.2
    rw [h]
  ihave H1 := (Entails.of_eq (bigSep_congr (s := Finset.univ) fun t _ => congrArg (owns (Ix := Unit) (Name := ℕ) (U := UU) (Lvl := ℕ) (c : Thread nD τ) ((Memref.whole b).slice (r t) (hr t)) fullShare) (hX t))) $$ H
  ihave H2 := (glue_at c b r hr hd hcov (fun i => x (hex i).choose.1 (hex i).choose.2)) $$ H1
  ihave H3 := (Entails.of_eq (owns_whole_eq c b _)) $$ H2
  icases H3 with ⟨%f, -, H⟩
  iexists f; iexact H

end Cut

end Cert.KProof

end
-- ==== Proof.Obligation.lean ====
/-
# The obligation of the kernel's body

What a device holds when the body starts and when it ends, and the body's run between the two.
-/
module

public import proofs.«01_k».proof.Proof.Buffers

@[expose] public section

set_option maxRecDepth 16384
set_option synthInstance.maxSize 4096

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Option XI → ℕ)

/-! ## The pipeline's proof data -/

/-- The scratch buffers, each whole at some contents. -/
def scr (c : Dev nD) : sProp 𝕄 :=
  iprop(held c cc0_scratch0 ∗ held c cc0_scratch1 ∗ held c cc0_scratch2 ∗ held c cc0_scratch3
    ∗ held c cc0_scratch4 ∗ held c cc0_scratch5 ∗ held c cc0_scratch6 ∗ held c cc0_scratch7)
/-- The arrays of keys and values. -/
def arrs (c : Dev nD) : sProp 𝕄 :=
  iprop((((c : Thread nD τ).loc main_arg1) ↦{fullShare} kMem m c) ∗ (((c : Thread nD τ).loc main_arg2) ↦{fullShare} vMem m c))
/-- The semaphores of the local copies. -/
def locals (c : Dev nD) : sProp 𝕄 := bigSep Finset.univ fun x : Fin 2 × Fin 2 => semVal ((c : Thread nD τ), .dma (ldS x.1 x.2)) 0
/-- The tokens of the signals a device sends. -/
def btoks (c : Dev nD) : sProp 𝕄 :=
  iprop(dutyTok ER (barC (peer 0 c)) 0 0 ∗ dutyTok ER (barC (peer 1 c)) 0 1 ∗ dutyTok ER (barC (peer 2 c)) 0 2)
/-- One resource for each exchange of each batch. -/
abbrev each (Φ : Fin 4 → Fin 3 → sProp 𝕄) : sProp 𝕄 := bigSep Finset.univ fun b => bigSep Finset.univ fun r => Φ b r

def ghost (c : Dev nD) : sProp 𝕄 :=
  iprop(records m ρ K ∗ btoks c ∗ atPos ER (barC c) 0 ∅ 0 ∗ each (toks c) ∗ (bigSep Finset.univ fun i : XI => pos c i) ∗ locals c)
def owedIn (c : Dev nD) : sProp 𝕄 :=
  iprop(cred (tallyAt (barC c) () 3) ∗ each (fun b r => crd c (1, b, r)) ∗ each (fun b r => crd c (3, b, r)))
def start (c : Dev nD) : sProp 𝕄 := iprop((∃ K, ghost m ρ K c) ∗ owedIn c ∗ levAts L lv ∗ arrs m c)

def Φ₀ (c : Dev nD) : sProp 𝕄 := iprop(start m ρ c ∗ scr c)
def Φ₁ (c : Dev nD) : sProp 𝕄 :=
  iprop(scr c ∗ arrs m c ∗ locals c ∗ (bigSep Finset.univ fun i : XI => zero c i) ∗ semVal (barC c) 0)

def dats (_ : Fin 1) (c : Dev nD) : Pipeline.Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ m c
  q _ := fullShare
  owed t := match t with
    | ⟨0, _⟩ => O₀ c
    | ⟨_ + 1, _⟩ => 0

/-! ## The slots of the local copies -/

omit [FloatOps F] in
theorem fin2 (Φ : Fin 2 → sProp 𝕄) : bigSep Finset.univ Φ = iprop(Φ 0 ∗ Φ 1) := bigSep_univ_eq_bigSepL [0, 1] (by decide) (by decide) Φ

theorem locals_eq (c : Dev nD) : locals (F := F) c
    = iprop((semVal ((c : Thread nD τ), .dma (ldS 0 0)) 0 ∗ semVal ((c : Thread nD τ), .dma (ldS 0 1)) 0)
        ∗ semVal ((c : Thread nD τ), .dma (ldS 1 0)) 0 ∗ semVal ((c : Thread nD τ), .dma (ldS 1 1)) 0) := by
  unfold locals; rw [bigSep_univ_prod, fin2, fin2, fin2]

omit [FloatOps F] in
theorem halves {ℓ : Loc nD τ sig} {f : Buf (Elt F) ℓ} : (ℓ ↦{fullShare} f : sProp 𝕄) ⊣⊢ iprop((ℓ ↦[Finset.univ]{hs 0} f) ∗ ℓ ↦[Finset.univ]{hs 1} f) :=
  pointsTo_share (PosShare.mem_left_op_right fullShare)

theorem free_in (c : Dev nD) : iprop(held c cc0_scratch0 ∗ held c cc0_scratch1 ∗ locals c ∗ arrs m c) ⊢ iprop(free m c 0 ∗ free m c 1) := by
  rw [locals_eq]
  unfold arrs free args
  iintro ⟨Hk, Hv, ⟨⟨H00, H01⟩, H10, H11⟩, HK, HV⟩
  ihave Hk := (cut c cc0_scratch0 rK (fun _ _ => rfl) dK cK) $$ Hk
  ihave Hk := (Entails.of_eq (fin2 (F := F) _)) $$ Hk
  ihave Hv := (cut c cc0_scratch1 rK (fun _ _ => rfl) dK cK) $$ Hv
  ihave Hv := (Entails.of_eq (fin2 (F := F) _)) $$ Hv
  ihave HK := halves.1 $$ HK
  ihave HV := halves.1 $$ HV
  icases Hk with ⟨Hk0, Hk1⟩
  icases Hv with ⟨Hv0, Hv1⟩
  icases HK with ⟨HK0, HK1⟩
  icases HV with ⟨HV0, HV1⟩
  isplitl [Hk0 Hv0 H00 H10 HK0 HV0]
  · isplitl [Hk0]; · iexact Hk0
    isplitl [Hv0]; · iexact Hv0
    isplitl [H00]; · iexact H00
    isplitl [H10]; · iexact H10
    isplitl [HK0] <;> iassumption
  isplitl [Hk1]; · iexact Hk1
  isplitl [Hv1]; · iexact Hv1
  isplitl [H01]; · iexact H01
  isplitl [H11]; · iexact H11
  isplitl [HK1] <;> iassumption

theorem free_out (c : Dev nD) : iprop(free m c 0 ∗ free m c 1) ⊢ iprop(held c cc0_scratch0 ∗ held c cc0_scratch1 ∗ locals c ∗ arrs m c) := by
  rw [locals_eq]
  unfold arrs free args
  iintro ⟨⟨Hk0, Hv0, H00, H10, HK0, HV0⟩, Hk1, Hv1, H01, H11, HK1, HV1⟩
  isplitl [Hk0 Hk1]
  · iapply (glue c cc0_scratch0 rK (fun _ _ => rfl) dK cK)
    iapply (Entails.of_eq (fin2 (F := F) _).symm)
    isplitl [Hk0]; · iexact Hk0
    iexact Hk1
  isplitl [Hv0 Hv1]
  · iapply (glue c cc0_scratch1 rK (fun _ _ => rfl) dK cK)
    iapply (Entails.of_eq (fin2 (F := F) _).symm)
    isplitl [Hv0]; · iexact Hv0
    iexact Hv1
  isplitl [H00 H01 H10 H11]
  · isplitl [H00 H01]
    · isplitl [H00] <;> iassumption
    isplitl [H10] <;> iassumption
  isplitl [HK0 HK1]
  · iapply halves.2
    isplitl [HK0] <;> iassumption
  iapply halves.2
  isplitl [HV0] <;> iassumption

/-! ## The batches -/

omit [FloatOps F] in
theorem xi_eq (Φ : XI → sProp 𝕄) : bigSep Finset.univ Φ
    = iprop(each (fun b r => Φ (0, b, r)) ∗ each (fun b r => Φ (1, b, r)) ∗ each (fun b r => Φ (2, b, r)) ∗ each (fun b r => Φ (3, b, r))) := by
  unfold each
  rw [bigSep_univ_prod, fin4, bigSep_univ_prod, bigSep_univ_prod, bigSep_univ_prod, bigSep_univ_prod]

theorem bats_eq (c : Dev nD) : iprop(Bat m ρ c 0 ∗ Bat m ρ c 1 ∗ Bat m ρ c 2 ∗ Bat m ρ c 3)
    = iprop((bigSep Finset.univ fun b => qP' c b (qB m ρ c b)) ∗ ((bigSep Finset.univ fun b => iprop(∃ x, aP c b x)) ∗ bigSep Finset.univ fun b => iprop(∃ x, lP' c b x))
        ∗ (bigSep Finset.univ fun b => iprop(∃ x, oP c b x))
        ∗ (each (fun b r => iprop(∃ x, sbP c b r x)) ∗ each (fun b r => iprop(∃ x, slP c b r x)))
        ∗ each (fun b r => slots (peer r c) b r) ∗ each (toks c)
        ∗ each (fun b r => pos c (0, b, r)) ∗ each (fun b r => pos c (1, b, r)) ∗ each (fun b r => pos c (2, b, r)) ∗ each (fun b r => pos c (3, b, r))
        ∗ each (fun b r => crd c (1, b, r)) ∗ each (fun b r => crd c (3, b, r))) := by
  have e : ∀ b, Bat m ρ c b = iprop(qP' c b (qB m ρ c b) ∗ ((∃ x, aP c b x) ∗ ∃ x, lP' c b x) ∗ (∃ x, oP c b x) ∗ bigSep Finset.univ fun r => Pre c b r) := fun b => by
    unfold Bat; rw [fin3]
  rw [← fin4 (fun b => Bat m ρ c b)]
  simp only [e, Pre, waits, sslots, each, bigSep_sep']

theorem dones_eq (c : Dev nD) : iprop(BatDone m ρ c 0 ∗ BatDone m ρ c 1 ∗ BatDone m ρ c 2 ∗ BatDone m ρ c 3)
    = iprop((bigSep Finset.univ fun b => qP' c b (qB m ρ c b)) ∗ ((bigSep Finset.univ fun b => aP c b (AN m ρ 3 c b)) ∗ bigSep Finset.univ fun b => lP' c b (AD m ρ 3 c b))
        ∗ (bigSep Finset.univ fun b => oP c b (quP (AN m ρ 3 c b) (AD m ρ 3 c b)))
        ∗ (each (fun b r => iprop(∃ x, rbP c b r x)) ∗ each (fun b r => iprop(∃ x, rlP c b r x)))
        ∗ (each (fun b r => iprop(∃ x, sbP c b r x)) ∗ each (fun b r => iprop(∃ x, slP c b r x)))
        ∗ each (fun b r => zero c (0, b, r)) ∗ each (fun b r => zero c (1, b, r)) ∗ each (fun b r => zero c (2, b, r)) ∗ each (fun b r => zero c (3, b, r))) := by
  have e : ∀ b, BatDone m ρ c b = iprop(qP' c b (qB m ρ c b) ∗ acc m ρ c b 3 ∗ oP c b (quP (AN m ρ 3 c b) (AD m ρ 3 c b)) ∗ bigSep Finset.univ fun r => Done c b r) := fun b => by
    unfold BatDone; rw [fin3]
  rw [← fin4 (fun b => BatDone m ρ c b)]
  simp only [e, Done, acc, sslots, slots, each, bigSep_sep']

theorem out_at (c : Dev nD) (i : S4x32x8x128.Idx) (b : Fin 4) (j : S1x32x8x128.Idx) (h0 : i 0 = b) (hj : ValueIdx.ix4 0 (i 1) (i 2) (i 3) = j) :
    quP (AN m ρ 3 c b) (AD m ρ 3 c b) j = outAt m ρ c i := by
  subst hj; subst h0; rfl

theorem out_slot (c : Dev nD) (b : Fin 4) : quP (AN m ρ 3 c b) (AD m ρ 3 c b) = fun j => outAt m ρ c ((rA b).emb j) :=
  funext fun j => out_at m ρ c _ b j
    (Fin.ext (by have : (j 0).val < 1 := (j 0).isLt; show b.val + 1 * (j 0).val = b.val; omega))
    (by
      funext a
      match a with
      | 0 => exact Fin.ext (by have : (j 0).val < 1 := (j 0).isLt; show 0 = (j 0).val; omega)
      | 1 => exact Fin.ext (by show 0 + 1 * (j 1).val = (j 1).val; omega)
      | 2 => exact Fin.ext (by show 0 + 1 * (j 2).val = (j 2).val; omega)
      | 3 => exact Fin.ext (by show 0 + 1 * (j 3).val = (j 3).val; omega))

omit [FloatOps F] in
theorem forget {T α : Type} [Fintype T] (Φ : T → α → sProp 𝕄) (x : T → α) :
    (bigSep Finset.univ fun t => Φ t (x t)) ⊢ bigSep Finset.univ fun t => iprop(∃ y, Φ t y) :=
  bigSep_mono fun t _ => some_intro (Φ := Φ t) (x t)

/-- What the body holds before the barrier besides the queues of signals, cut into slots. -/
theorem bats_in (c : Dev nD) :
    iprop(owns (c : Thread nD τ) qM fullShare (xstg m ρ c) ∗ held c cc0_stg1_0 ∗ held c cc0_scratch2 ∗ held c cc0_scratch3 ∗ held c cc0_scratch4 ∗ held c cc0_scratch5
        ∗ bigSep Finset.univ (barPay (F := F) c) ∗ each (toks c) ∗ (bigSep Finset.univ fun i : XI => pos c i)
        ∗ each (fun b r => crd c (1, b, r)) ∗ each (fun b r => crd c (3, b, r)))
      ⊢ iprop(Bat m ρ c 0 ∗ Bat m ρ c 1 ∗ Bat m ρ c 2 ∗ Bat m ρ c 3) := by
  rw [bats_eq, xi_eq]
  unfold barPay each
  rw [bigSep_univ_comm]
  iintro ⟨Hq, Ho, Ha, Hl, Hsb, Hsl, Hb, Ht, ⟨Hp0, Hp1, Hp2, Hp3⟩, Hc1, Hc3⟩
  isplitl [Hq]; · iapply (owns_rects (c : Thread nD τ) qM fullShare rA (fun _ _ => rfl) dA cA (xstg m ρ c)); iexact Hq
  isplitl [Ha Hl]
  · isplitl [Ha]; · iapply (cut c cc0_scratch2 rA (fun _ _ => rfl) dA cA); iexact Ha
    iapply (cut c cc0_scratch3 rL (fun _ _ => rfl) dL cL); iexact Hl
  isplitl [Ho]; · iapply (cut c cc0_stg1_0 rA (fun _ _ => rfl) dA cA); iexact Ho
  isplitl [Hsb Hsl]
  · isplitl [Hsb]
    · iapply (Entails.of_eq (bigSep_univ_prod (fun t : Fin 4 × Fin 3 => (iprop(∃ x, sbP c t.1 t.2 x) : sProp 𝕄))))
      iapply (cut c cc0_scratch4 (fun t : Fin 4 × Fin 3 => rX t.1 t.2) (fun _ _ => rfl) dX cX); iexact Hsb
    iapply (Entails.of_eq (bigSep_univ_prod (fun t : Fin 4 × Fin 3 => (iprop(∃ x, slP c t.1 t.2 x) : sProp 𝕄))))
    iapply (cut c cc0_scratch5 (fun t : Fin 4 × Fin 3 => rY t.1 t.2) (fun _ _ => rfl) dY cY); iexact Hsl
  isplitl [Hb]; · iexact Hb
  isplitl [Ht]; · iexact Ht
  isplitl [Hp0]; · iexact Hp0
  isplitl [Hp1]; · iexact Hp1
  isplitl [Hp2]; · iexact Hp2
  isplitl [Hp3]; · iexact Hp3
  isplitl [Hc1] <;> iassumption

/-- At the end the slots are joined again. -/
theorem bats_out (c : Dev nD) :
    iprop(BatDone m ρ c 0 ∗ BatDone m ρ c 1 ∗ BatDone m ρ c 2 ∗ BatDone m ρ c 3)
      ⊢ iprop(owns (c : Thread nD τ) qM fullShare (xstg m ρ c) ∗ owns (c : Thread nD τ) oM fullShare (outAt m ρ c)
        ∗ held c cc0_scratch2 ∗ held c cc0_scratch3 ∗ held c cc0_scratch4 ∗ held c cc0_scratch5 ∗ held c cc0_scratch6 ∗ held c cc0_scratch7
        ∗ bigSep Finset.univ fun i : XI => zero c i) := by
  rw [dones_eq, xi_eq]
  unfold each
  iintro ⟨Hq, ⟨Ha, Hl⟩, Ho, ⟨Hrb, Hrl⟩, ⟨Hsb, Hsl⟩, Hz0, Hz1, Hz2, Hz3⟩
  isplitl [Hq]; · iapply (glue_at c cc0_stg0_0 rA (fun _ _ => rfl) dA cA (xstg m ρ c)); iexact Hq
  isplitl [Ho]
  · iapply (glue_at c cc0_stg1_0 rA (fun _ _ => rfl) dA cA (outAt m ρ c))
    iapply (Entails.of_eq (bigSep_congr (s := Finset.univ) fun b _ => congrArg (oP c b) (out_slot m ρ c b))); iexact Ho
  isplitl [Ha]
  · iapply (glue c cc0_scratch2 rA (fun _ _ => rfl) dA cA)
    iapply (forget (fun b => aP c b) (AN m ρ 3 c)); iexact Ha
  isplitl [Hl]
  · iapply (glue c cc0_scratch3 rL (fun _ _ => rfl) dL cL)
    iapply (forget (fun b => lP' c b) (AD m ρ 3 c)); iexact Hl
  isplitl [Hsb]
  · iapply (glue c cc0_scratch4 (fun t : Fin 4 × Fin 3 => rX t.1 t.2) (fun _ _ => rfl) dX cX)
    iapply (Entails.of_eq (bigSep_univ_prod (fun t : Fin 4 × Fin 3 => (iprop(∃ x, sbP c t.1 t.2 x) : sProp 𝕄))).symm); iexact Hsb
  isplitl [Hsl]
  · iapply (glue c cc0_scratch5 (fun t : Fin 4 × Fin 3 => rY t.1 t.2) (fun _ _ => rfl) dY cY)
    iapply (Entails.of_eq (bigSep_univ_prod (fun t : Fin 4 × Fin 3 => (iprop(∃ x, slP c t.1 t.2 x) : sProp 𝕄))).symm); iexact Hsl
  isplitl [Hrb]
  · iapply (glue c cc0_scratch6 (fun t : Fin 4 × Fin 3 => rX t.1 t.2) (fun _ _ => rfl) dX cX)
    iapply (Entails.of_eq (bigSep_univ_prod (fun t : Fin 4 × Fin 3 => (iprop(∃ x, rbP c t.1 t.2 x) : sProp 𝕄))).symm); iexact Hrb
  isplitl [Hrl]
  · iapply (glue c cc0_scratch7 (fun t : Fin 4 × Fin 3 => rY t.1 t.2) (fun _ _ => rfl) dY cY)
    iapply (Entails.of_eq (bigSep_univ_prod (fun t : Fin 4 × Fin 3 => (iprop(∃ x, rlP c t.1 t.2 x) : sProp 𝕄))).symm); iexact Hrl
  isplitl [Hz0]; · iexact Hz0
  isplitl [Hz1]; · iexact Hz1
  isplitl [Hz2] <;> iassumption

/-- The receive slots a device hands out at the barrier. -/
theorem slots_in (c : Dev nD) :
    iprop(held c cc0_scratch6 ∗ held c cc0_scratch7)
      ⊢ iprop((bigSep Finset.univ fun b => slots (F := F) c b 0) ∗ (bigSep Finset.univ fun b => slots (F := F) c b 1) ∗ bigSep Finset.univ fun b => slots (F := F) c b 2) := by
  rw [← fin3 (fun r => (bigSep Finset.univ fun b => slots (F := F) c b r : sProp 𝕄)), bigSep_univ_comm]
  simp only [slots, bigSep_sep']
  iintro ⟨Hrb, Hrl⟩
  isplitl [Hrb]
  · iapply (Entails.of_eq (bigSep_univ_prod (fun t : Fin 4 × Fin 3 => (iprop(∃ x, rbP c t.1 t.2 x) : sProp 𝕄))))
    iapply (cut c cc0_scratch6 (fun t : Fin 4 × Fin 3 => rX t.1 t.2) (fun _ _ => rfl) dX cX); iexact Hrb
  iapply (Entails.of_eq (bigSep_univ_prod (fun t : Fin 4 × Fin 3 => (iprop(∃ x, rlP c t.1 t.2 x) : sProp 𝕄))))
  iapply (cut c cc0_scratch7 (fun t : Fin 4 × Fin 3 => rY t.1 t.2) (fun _ _ => rfl) dY cY); iexact Hrl

/-! ## The body -/

set_option maxHeartbeats 1000000 in
theorem sound_body (c : Dev nD) (Q : PUnit → sProp 𝕄) :
    iprop(ghost m ρ K c ∗ owedIn c ∗ levAts L lv ∗ arrs m c ∗ scr c ∗ Ow c (O₀ c) ∗ owns (c : Thread nD τ) qM fullShare (xstg m ρ c) ∗ held c cc0_stg1_0)
      ⊢ iprop(((Φ₁ m c ∗ Ow c 0 ∗ owns (c : Thread nD τ) qM fullShare (xstg m ρ c) ∗ owns (c : Thread nD τ) oM fullShare (outAt m ρ c)) -∗ Q ⟨⟩)
        -∗ WP c (printed (F := F)) Q) := by
  rw [body_eq]
  simp only [Prog.lift, Prog.bind_op, Prog.bind_ret, wp_deviceId]
  rw [body_tail]
  unfold ghost owedIn scr btoks
  iintro ⟨⟨#HR, Hbt, Hat, Ht, Hp, Hloc⟩, ⟨Hcb, Hc1, Hc3⟩, #Hlev, Harr, ⟨Hk, Hv, Ha, Hl, Hsb, Hsl, Hrb, Hrl⟩, HO, Hq, Ho⟩ Hend
  iapply (wp_barrier m ρ K c _ (fun r => by
    match r with
    | 0 => exact to0 (k0_dev1_eq c)
    | 1 => exact to1 (k0_dev2_eq c)
    | 2 => exact to2 (k0_dev3_eq c))) $$ [HO Hbt Hrb Hrl Hcb Hat]
  · isplitr; · iexact HR
    isplitr; · iexact Hlev
    isplitl [HO]; · iexact HO
    isplitl [Hbt]; · iexact Hbt
    isplitl [Hrb Hrl]
    · iapply (slots_in c)
      isplitl [Hrb] <;> iassumption
    isplitl [Hcb] <;> iassumption
  iintro ⟨HO, Hz, Hb⟩
  ihave Hf := (free_in m c) $$ [Hk Hv Hloc Harr]
  · isplitl [Hk]; · iexact Hk
    isplitl [Hv]; · iexact Hv
    isplitl [Hloc] <;> iassumption
  icases Hf with ⟨Hf0, Hf1⟩
  ihave HB := (bats_in m ρ c) $$ [Hq Ho Ha Hl Hsb Hsl Hb Ht Hp Hc1 Hc3]
  · isplitl [Hq]; · iexact Hq
    isplitl [Ho]; · iexact Ho
    isplitl [Ha]; · iexact Ha
    isplitl [Hl]; · iexact Hl
    isplitl [Hsb]; · iexact Hsb
    isplitl [Hsl]; · iexact Hsl
    isplitl [Hb]; · iexact Hb
    isplitl [Ht]; · iexact Ht
    isplitl [Hp]; · iexact Hp
    isplitl [Hc1] <;> iassumption
  ihave Hw := (wp_tail m ρ K c (Q := Q)) $$ [HO Hf0 Hf1 HB]
  · isplitr; · iexact HR
    isplitr; · iexact Hlev
    isplitl [Hf0]; · iexact Hf0
    isplitl [Hf1]; · iexact Hf1
    isplitl [HO] <;> iassumption
  rw [show (tail (F := F) c >>= fun u => Prog.ret u) = tail c from Prog.bind_pure _]
  iapply Hw
  iintro ⟨Hf0, Hf1, HO, HB⟩
  iapply Hend
  ihave Hf := (free_out m c) $$ [Hf0 Hf1]
  · isplitl [Hf0] <;> iassumption
  icases Hf with ⟨Hk, Hv, Hloc, Harr⟩
  ihave HB := (bats_out m ρ c) $$ HB
  icases HB with ⟨Hq, Ho, Ha, Hl, Hsb, Hsl, Hrb, Hrl, Hx⟩
  unfold Φ₁ scr
  isplitr [HO Hq Ho]
  · isplitl [Hk Hv Ha Hl Hsb Hsl Hrb Hrl]
    · isplitl [Hk]; · iexact Hk
      isplitl [Hv]; · iexact Hv
      isplitl [Ha]; · iexact Ha
      isplitl [Hl]; · iexact Hl
      isplitl [Hsb]; · iexact Hsb
      isplitl [Hsl]; · iexact Hsl
      isplitl [Hrb] <;> iassumption
    isplitl [Harr]; · iexact Harr
    isplitl [Hloc]; · iexact Hloc
    isplitl [Hx] <;> iassumption
  isplitl [HO]; · iexact HO
  isplitl [Hq] <;> iassumption

def bodyPre (c : Dev nD) : sProp 𝕄 :=
  iprop(Φ₀ m ρ c ∗ (dats m ρ 0 c).owesAt () t0_0.castSucc
    ∗ (∃ d, owns (c : Thread nD τ) qM fullShare ((dats m ρ 0 c).before (0 : Fin 2) t0_0 d))
    ∗ (∃ d, owns (c : Thread nD τ) oM fullShare ((dats m ρ 0 c).before (1 : Fin 2) t0_0 d)))
def bodyPost (c : Dev nD) : sProp 𝕄 :=
  iprop(Φ₁ m c ∗ (dats m ρ 0 c).owesAt () t0_0.succ ∗ owns (c : Thread nD τ) qM fullShare (xstg m ρ c) ∗ owns (c : Thread nD τ) oM fullShare (outAt m ρ c))

theorem sound (c : Dev nD) : bodyPre m ρ c ⊢ WP c (printed (F := F)) (fun _ => bodyPost m ρ c) := by
  unfold bodyPre Φ₀ start
  iintro ⟨⟨⟨⟨%K, Hg⟩, Hin, Hlev, Harr⟩, Hscr⟩, Ho, ⟨%d0, Hq⟩, ⟨%d1, Hout⟩⟩
  have hx : (dats m ρ 0 c).before (0 : Fin 2) t0_0 d0 = xstg m ρ c := by unfold Pipeline.Dat.before; rw [if_pos (fetch0_0 t0_0)]; rfl
  rw [hx]
  unfold Pipeline.Dat.owesAt Pipeline.owesWithin
  icases Ho with ⟨%W, %hW, HO⟩
  rw [show (dats m ρ 0 c).owed t0_0.castSucc = O₀ c from rfl]
  ihave Hout := (Entails.of_eq (owns_whole_eq c cc0_stg1_0 _)) $$ Hout
  icases Hout with ⟨%fo, -, Hout⟩
  iapply (sound_body m ρ K c _) $$ [Hg Hin Hlev Harr Hscr HO Hq Hout]
  · isplitl [Hg]; · iexact Hg
    isplitl [Hin]; · iexact Hin
    isplitl [Hlev]; · iexact Hlev
    isplitl [Harr]; · iexact Harr
    isplitl [Hscr]; · iexact Hscr
    isplitl [HO]; · unfold Ow; iexists W; iexact HO
    isplitl [Hq]; · iexact Hq
    iexists fo; iexact Hout
  iintro ⟨HΦ, HO, Hq, Ho⟩
  unfold bodyPost Ow
  icases HO with ⟨%W', HO⟩
  isplitl [HΦ]; · iexact HΦ
  isplitl [HO]
  · unfold Pipeline.Dat.owesAt Pipeline.owesWithin
    rw [show (dats m ρ 0 c).owed t0_0.succ = 0 from rfl]
    iexists W'
    isplitr; · ipureintro; exact fun _ _ => Or.inl trivial
    iexact HO
  isplitl [Hq] <;> iassumption

/-- The library's body obligation on core `c`. -/
theorem body_obligation (c : Dev nD) : Pipeline.BodyObligation (dats (F := F) m ρ 0 c) (defs₀ (F := F)) 𝒱₀ () Set.univ := fun t => by
  rw [fin_N0 t]
  rw [bigSep_W0, bigSep_W0]
  exact sound m ρ c

end Cert.KProof

end
-- ==== Proof.Launch.lean ====
/-
# The launch

The semaphores of the exchange are put under their invariants, the tokens are dealt to the devices that pay with them,
and the run of the whole mesh follows from the body of one device.
-/
module

public import proofs.«01_k».proof.Proof.Obligation
public import Idealize.ShloMosaic.Lib.Pipeline.CollectiveSegs

@[expose] public section

set_option maxRecDepth 16384
set_option synthInstance.maxSize 4096

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Option XI → ℕ)

open Idealize.ShloMosaic.Pipeline (Dat Cfg Window BodyObligation cellOf)

/-! ## Semaphores, cells, tokens -/

/-- The kernel's own semaphores: those of the local copies and those of the exchange. -/
abbrev osem : (Fin 2 × Fin 2) ⊕ XI → SemLoc sig
  | .inl x => .dma (ldS x.1 x.2)
  | .inr i => .dma (xsem i)

theorem ownSemFacts : Pipeline.OwnSemFacts cfg0.spec osem := by decide

theorem share_eq (c : Dev nD) (w : Fin cfg0.W) : (dats m ρ 0 c).share w = fullShare := by unfold Dat.share; split <;> rfl

def ringCells : Finset (GSem nD τ sig) := Finset.univ.map ⟨kcell, kcell_inj⟩

/-- The duties of a device's own cells. -/
abbrev tokOf (ct : Dev nD × (Fin 3 ⊕ XI)) : GSem nD τ sig × ℕ × Fin 3 := match ct.2 with
  | .inl r => (barC ct.1, 0, r)
  | .inr i => (xC ct.1 i, 0, 0)
theorem tokOf_inj : Function.Injective tokOf := by
  rintro ⟨c, t⟩ ⟨c', t'⟩ h
  rcases t with r | i <;> rcases t' with r' | i'
  · have h1 : kcell (c, none) = kcell (c', none) := congrArg (fun x : GSem nD τ sig × ℕ × Fin 3 => x.1) h
    have h2 : r = r' := congrArg (fun x : GSem nD τ sig × ℕ × Fin 3 => x.2.2) h
    rw [h2, show c = c' from congrArg Prod.fst (kcell_inj h1)]
  · exact absurd (congrArg (fun x : GSem nD τ sig × ℕ × Fin 3 => x.1.2) h) (fun h' => by cases h')
  · exact absurd (congrArg (fun x : GSem nD τ sig × ℕ × Fin 3 => x.1.2) h) (fun h' => by cases h')
  · have h1 : kcell (c, some i) = kcell (c', some i') := congrArg (fun x : GSem nD τ sig × ℕ × Fin 3 => x.1) h
    have h2 := kcell_inj h1
    rw [show c = c' from congrArg Prod.fst h2, show i = i' from Option.some.inj (congrArg Prod.snd h2)]
def ringToks : Finset (GSem nD τ sig × ℕ × Fin 3) := Finset.univ.map ⟨tokOf, tokOf_inj⟩

def u₀ : UU :=
  (initOf (Pipeline.cells cfgs cellOf_inj) (Pipeline.launchToks cfgs cellOf_inj), initOf ringCells ringToks, 1)

/-- The tokens of a device's own cells. -/
def mint (c : Dev nD) : sProp 𝕄 :=
  iprop((bigSep Finset.univ fun r : Fin 3 => dutyTok ER (barC c) 0 r) ∗ bigSep Finset.univ fun i : XI => dutyTok ER (xC c i) 0 0)

/-- What the launch deals a device. -/
def G (c : Dev nD) : sProp 𝕄 :=
  iprop((bigSep Finset.univ fun k : Option XI => roundState ER (Rd m ρ) (kcell (c, k)) 0)
    ∗ (bigSep Finset.univ fun k : Option XI => iprop(atPos ER (kcell (c, k)) 0 ∅ 0 ∗ reached ER (kcell (c, k)) 0)) ∗ mint c)
def G' (c : Dev nD) : sProp 𝕄 := iprop(∃ K, ghost m ρ K c)

omit [FloatOps F] in
/-- The cells of a device are the barrier's and the exchange's. -/
theorem opt (Φ : Option XI → sProp 𝕄) : bigSep Finset.univ Φ = iprop(Φ none ∗ bigSep Finset.univ fun i => Φ (some i)) := by
  rw [bigSep_univ_at Φ none,
    show (Finset.univ.erase none : Finset (Option XI)) = Finset.univ.map ⟨some, Option.some_injective XI⟩ by
      ext k; cases k <;> simp, bigSep_map]
  rfl

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Option XI => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => mint c := by
    unfold ringToks; rw [bigSep_map, bigSep_univ_prod]
    exact bigSep_congr fun c _ => by unfold mint; rw [bigSep_univ_sum]; rfl
  iintro HX
  imod (Rounds.fund ER (Rd m ρ) ringCells ringToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄)
    = iprop(locals c ∗ bigSep Finset.univ fun i : XI => zero c i) := by
  unfold Pipeline.ownSems0 locals; rw [bigSep_univ_sum]; rfl
omit [FloatOps F] in
theorem unscopedSems0_eq (c : Dev nD) : (unscopedSems0 c : sProp 𝕄) = semVal (barC c) 0 := by
  unfold unscopedSems0; rw [bigSep_eq_bigSepL_of_eq [SemLoc.reg barS] (by decide) (by decide)]; rfl

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ mint c ∗ locals c) := by
  rw [ownSems0_eq, unscopedSems0_eq]
  unfold G
  iintro ⟨⟨Hl, Hz⟩, Hb, Hst, Hat, Htok⟩
  ihave Hv := (Entails.of_eq (opt (F := F) fun k => semVal (kcell (c, k)) 0).symm) $$ [Hb Hz]
  · isplitl [Hb]; · iexact Hb
    iexact Hz
  imod (show iprop((bigSep Finset.univ fun k : Option XI => semVal (kcell (c, k)) 0) ∗ bigSep Finset.univ fun k : Option XI => roundState ER (Rd m ρ) (kcell (c, k)) 0)
      ⊢ (|={Set.univ}=> bigSep Finset.univ fun k => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hl

/-! ## The tokens dealt to those who pay -/

omit [FloatOps F] in
theorem deal (r : Fin 3) (Φ : Dev nD → sProp 𝕄) : bigSep Finset.univ Φ = bigSep Finset.univ fun c => Φ (peer r c) :=
  bigSep_univ_equiv (swap r) Φ
omit [FloatOps F] in
theorem deal3 (Φ : Dev nD → Fin 3 → sProp 𝕄) : (bigSep Finset.univ fun c => bigSep Finset.univ fun r => Φ c r)
    = bigSep Finset.univ fun c => bigSep Finset.univ fun r => Φ (peer r c) r := by
  rw [BI.bigSep_univ_comm, bigSep_congr (fun r _ => deal r fun c => Φ c r), BI.bigSep_univ_comm]
omit [FloatOps F] in
theorem dealX (Φ : Dev nD → Fin 4 → Fin 3 → sProp 𝕄) : (bigSep Finset.univ fun c => each (Φ c))
    = bigSep Finset.univ fun c => each fun b r => Φ (peer r c) b r := by
  unfold each
  rw [BI.bigSep_univ_comm, bigSep_congr (fun b _ => deal3 fun c r => Φ c b r), BI.bigSep_univ_comm]

theorem toks_around : (bigSep Finset.univ fun c : Dev nD => (mint c : sProp 𝕄)) ⊢ bigSep Finset.univ fun c : Dev nD => iprop(btoks c ∗ each (toks c)) := by
  have hb (c : Dev nD) : btoks (F := F) c = bigSep Finset.univ fun r : Fin 3 => dutyTok ER (barC (peer r c)) 0 r := by
    rw [fin3]; rfl
  have ht (c : Dev nD) : each (toks (F := F) c) = iprop((each fun b r => dutyTok ER (xC c (0, b, r)) 0 0) ∗ (each fun b r => dutyTok ER (xC (peer r c) (1, b, r)) 0 0)
      ∗ (each fun b r => dutyTok ER (xC c (2, b, r)) 0 0) ∗ each fun b r => dutyTok ER (xC (peer r c) (3, b, r)) 0 0) := by
    unfold each toks; simp only [bigSep_sep']
  have hm (c : Dev nD) : mint (F := F) c = iprop((bigSep Finset.univ fun r : Fin 3 => dutyTok ER (barC c) 0 r)
      ∗ (each fun b r => dutyTok ER (xC c (0, b, r)) 0 0) ∗ (each fun b r => dutyTok ER (xC c (1, b, r)) 0 0)
      ∗ (each fun b r => dutyTok ER (xC c (2, b, r)) 0 0) ∗ each fun b r => dutyTok ER (xC c (3, b, r)) 0 0) := by
    unfold mint; rw [xi_eq]
  refine Entails.of_eq ?_
  rw [bigSep_congr fun c _ => hm c, bigSep_congr fun c _ => congrArg₂ (fun x y : sProp 𝕄 => iprop(x ∗ y)) (hb c) (ht c)]
  simp only [bigSep_sep']
  rw [deal3 fun c r => dutyTok ER (barC c) 0 r, dealX fun c b r => dutyTok ER (xC c (1, b, r)) 0 0,
    dealX fun c b r => dutyTok ER (xC c (3, b, r)) 0 0]

/-- What stays with a device: its positions, its tokens, its local semaphores. -/
def linear (c : Dev nD) : sProp 𝕄 :=
  iprop((atPos ER (barC c) 0 ∅ 0 ∗ bigSep Finset.univ fun i : XI => pos c i) ∗ (btoks c ∗ each (toks c)) ∗ locals c)

theorem ghost_intro (c : Dev nD) : iprop(records m ρ K ∗ linear c) ⊢ G' m ρ c := by
  unfold linear G' ghost
  iintro ⟨HR, ⟨Hb, Hp⟩, ⟨Htb, Htx⟩, Hl⟩
  iexists K
  isplitl [HR]; · iexact HR
  isplitl [Htb]; · iexact Htb
  isplitl [Hb]; · iexact Hb
  isplitl [Htx]; · iexact Htx
  isplitl [Hp]; · iexact Hp
  iexact Hl

omit [FloatOps F] in
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem linear_eq : (bigSep Finset.univ fun c : Dev nD => (linear c : sProp 𝕄))
    = iprop((bigSep Finset.univ fun c : Dev nD => bigSep Finset.univ fun k : Option XI => atPos ER (kcell (c, k)) 0 ∅ 0)
        ∗ (bigSep Finset.univ fun c : Dev nD => iprop(btoks c ∗ each (toks c))) ∗ bigSep Finset.univ fun c : Dev nD => locals c) := by
  have hp (c : Dev nD) : (bigSep Finset.univ fun k : Option XI => (atPos ER (kcell (c, k)) 0 ∅ 0 : sProp 𝕄))
      = iprop(atPos ER (barC c) 0 ∅ 0 ∗ bigSep Finset.univ fun i : XI => pos c i) := opt (F := F) _
  rw [bigSep_congr fun c _ => hp c, ← bigSep_sep', ← bigSep_sep']
  rfl

theorem regroup :
    (bigSep Finset.univ fun c : Dev nD => iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ mint c ∗ locals c) : sProp 𝕄)
      ⊢ bigSep Finset.univ (G' m ρ) := by
  rw [bigSep_sep', bigSep_sep', bigSep_sep', ← bigSep_univ_prod (fun ck : Dev nD × Option XI => iprop(∃ κ : ℕ, cellInv ER (Rd m ρ) κ (kcell ck))),
    bigSep_congr (s := Finset.univ) (fun (c : Dev nD) _ => bigSep_sep' Finset.univ (fun k : Option XI => (atPos ER (kcell (c, k)) 0 ∅ 0 : sProp 𝕄)) (fun k => reached ER (kcell (c, k)) 0)),
    bigSep_sep', ← bigSep_univ_prod (fun ck : Dev nD × Option XI => (reached ER (kcell ck) 0 : sProp 𝕄))]
  iintro ⟨HI, ⟨Hat, HR⟩, Htok, Hl⟩
  ihave HK := (BI.bigSep_exists_pi Finset.univ (fun (ck : Dev nD × Option XI) (κ : ℕ) => (cellInv ER (Rd m ρ) κ (kcell ck) : sProp 𝕄))) $$ HI
  icases HK with ⟨%K, HI⟩
  ihave Htk := (toks_around (F := F)) $$ Htok
  iapply (with_persistent (R := records m ρ K) fun c _ => ghost_intro m ρ K c)
  isplitl [HI HR]
  · iapply (Entails.of_eq (show iprop((bigSep Finset.univ fun ck : Dev nD × Option XI => cellInv ER (Rd m ρ) (K ck) (kcell ck))
        ∗ bigSep Finset.univ fun ck : Dev nD × Option XI => reached ER (kcell ck) 0) = records m ρ K from by unfold records; rw [bigSep_sep']))
    isplitl [HI]; · iexact HI
    iexact HR
  · iapply (Entails.of_eq (linear_eq (F := F)).symm)
    isplitl [Hat]; · iexact Hat
    isplitl [Htk]; · iexact Htk
    iexact Hl

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## What the launch owes a device -/

omit [FloatOps F] in
/-- If every device owes its partner of round `r` `n` units of one semaphore, every device is owed `n`. -/
theorem cred_of (r : Fin 3) (sm : SemLoc sig) (n : ℕ) (c : Dev nD) :
    (Pipeline.launchCred (fun d => tallyAt ((peer r d : Thread nD τ), sm) () n) c : sProp 𝕄) ⊢ cred (tallyAt ((c : Thread nD τ), sm) () n) := by
  refine (Pipeline.launchCred_elim _ c sm).trans (Entails.of_eq (congrArg cred ?_))
  unfold tallyAt
  refine congrArg _ (Finsupp.ext fun u => ?_)
  cases u
  have h (d : Dev nD) : tallyAt ((peer r d : Thread nD τ), sm) () n ((c : Thread nD τ), sm) () = if d = peer r c then n else 0 := by
    rw [tallyAt_apply]
    by_cases hd : d = peer r c
    · subst hd; rw [peer_peer, if_pos ⟨rfl, rfl⟩, if_pos rfl]
    · rw [if_neg hd, if_neg]
      rintro ⟨h1, -⟩
      exact hd (by rw [show c = peer r d from congrArg (fun g : GSem nD τ sig => g.1.1) h1, peer_peer])
  refine (Pipeline.launchCredit_owing _ _ _).trans ?_
  refine (Finset.sum_congr rfl fun d _ => h d).trans ?_
  rw [Finset.sum_ite_eq' Finset.univ (peer r c) fun _ => n, if_pos (Finset.mem_univ _), Finsupp.single_eq_same]

theorem owedL_sum (c : Dev nD) : ∀ l, owedL c l = (l.map (owedX c)).sum
  | [] => rfl
  | i :: l => by rw [List.map_cons, List.sum_cons, ← owedL_sum c l, add_comm]; rfl

theorem owed_order (c : Dev nD) : owedL c order = ∑ i, owedX c i := by
  rw [owedL_sum, ← List.sum_toFinset _ (show order.Nodup by decide), show order.toFinset = Finset.univ by decide]

theorem cred_x (c : Dev nD) (i : Fin 4 × Fin 3) : (Pipeline.launchCred (fun d => owedX d i) c : sProp 𝕄) ⊢ iprop(crd c (1, i) ∗ crd c (3, i)) := by
  rw [show (fun d => owedX d i) = fun d => tallyAt (xC (peer i.2 d) (3, i)) () NL + tallyAt (xC (peer i.2 d) (1, i)) () NN from rfl,
    Pipeline.launchCred_add (fun d => tallyAt (xC (peer i.2 d) (3, i)) () NL)]
  iintro ⟨H3, H1⟩
  isplitl [H1]
  · iapply (cred_of (F := F) i.2 (.dma (xsem (1, i))) NN c) $$ H1
  · iapply (cred_of (F := F) i.2 (.dma (xsem (3, i))) NL c) $$ H3

theorem three (c : Dev nD) : (tallyAt (barC c) () 1 + (tallyAt (barC c) () 1 + tallyAt (barC c) () 1) : CellTallies nD τ sig Unit) = tallyAt (barC c) () 3 := by
  have h2 : (tallyAt (barC c) () 2 : CellTallies nD τ sig Unit) = tallyAt (barC c) () 1 + tallyAt (barC c) () 1 := (tallyAt_add _ _ 1 1).symm
  have h3 : (tallyAt (barC c) () 3 : CellTallies nD τ sig Unit) = tallyAt (barC c) () 1 + tallyAt (barC c) () 2 := (tallyAt_add _ _ 1 2).symm
  rw [h3, h2]

theorem cred_b (r : Fin 3) (c : Dev nD) : (Pipeline.launchCred (fun d => owedB d r) c : sProp 𝕄) ⊢ cred (tallyAt (barC c) () 1) :=
  cred_of r (.reg barS) 1 c

theorem creds (c : Dev nD) : (Pipeline.launchCred O₀ c : sProp 𝕄) ⊢ owedIn c := by
  have hx : (Pipeline.launchCred (fun d => owedL d order) c : sProp 𝕄)
      ⊢ iprop(each (fun b r => crd c (1, b, r)) ∗ each (fun b r => crd c (3, b, r))) := by
    rw [show (fun d => owedL d order) = fun d => ∑ i, owedX d i from funext owed_order, Pipeline.launchCred_sum Finset.univ (fun i d => owedX d i) c]
    have h : (bigSep Finset.univ fun i : Fin 4 × Fin 3 => Pipeline.launchCred (fun d => owedX d i) c : sProp 𝕄)
        ⊢ bigSep Finset.univ fun i : Fin 4 × Fin 3 => iprop(crd c (1, i) ∗ crd c (3, i)) := bigSep_mono fun i _ => cred_x c i
    rw [bigSep_sep', bigSep_univ_prod (fun i : Fin 4 × Fin 3 => (crd c (1, i) : sProp 𝕄)), bigSep_univ_prod (fun i : Fin 4 × Fin 3 => (crd c (3, i) : sProp 𝕄))] at h
    exact h
  rw [show O₀ = fun d => owedL d order + owedB d 2 + owedB d 1 + owedB d 0 from rfl,
    Pipeline.launchCred_add (fun d => owedL d order + owedB d 2 + owedB d 1),
    Pipeline.launchCred_add (fun d => owedL d order + owedB d 2), Pipeline.launchCred_add (fun d => owedL d order)]
  unfold owedIn
  iintro ⟨⟨⟨Hx, H2⟩, H1⟩, H0⟩
  ihave H2 := (cred_b (F := F) 2 c) $$ H2
  ihave H1 := (cred_b (F := F) 1 c) $$ H1
  ihave H0 := (cred_b (F := F) 0 c) $$ H0
  isplitl [H0 H1 H2]
  · iapply (Entails.of_eq (congrArg cred (three c)))
    iapply (cred_add _ _).2
    isplitl [H0]; · iexact H0
    iapply (cred_add _ _).2
    isplitl [H1]; · iexact H1
    iexact H2
  · iapply hx $$ Hx

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨Ha, Hlev, Hcr, -, HG⟩
  ihave Hc := (creds (F := F) c) $$ Hcr
  imodintro
  unfold start
  isplitl
  · isplitl [HG]; · unfold G'; iexact HG
    isplitl [Hc]; · iexact Hc
    isplitl [Hlev]; · iexact Hlev
    iapply (Entails.of_eq (show Pipeline.unscopedRestP Pipeline.Prefetch.none cfg0.spec c (fun b => m ((c : Thread nD τ).loc b)) = arrs m c from by
      rw [Pipeline.unscopedRestP_none]; exact unscopedRest0_eq c _))
    iexact Ha
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scr held
  iintro ⟨Hs, -, Hr⟩
  isplitl [Hs]; · iexact Hs
  iexact Hr

theorem phi1_exit (c : Dev nD) :
    (dats m ρ 0 c).Φ (Fin.last cfg0.N) ⊢ iprop((unscopedSems0 c ∗ arrs m c) ∗ Pipeline.ownSems0 osem c ∗ Pipeline.scopedRest cfg0.spec c) := by
  rw [show (dats m ρ 0 c).Φ (Fin.last cfg0.N) = Φ₁ m c from rfl, scopedRest0_eq, ownSems0_eq, unscopedSems0_eq]
  unfold Φ₁ scr held
  iintro ⟨Hr, Ha, Hl, Hz, Hb⟩
  isplitl [Hb Ha]
  · isplitl [Hb] <;> iassumption
  isplitl [Hl Hz]
  · isplitl [Hl] <;> iassumption
  iexact Hr

theorem cell_waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg1) = m ((c : Thread nD τ).loc main_arg1)
    ∧ r.2.mem ((c : Thread nD τ).loc main_arg2) = m ((c : Thread nD τ).loc main_arg2)

/-- What is read of a device's state at the end. -/
def QY (c : Dev nD) (s : MemSt nD τ sig (Elt F)) : Prop :=
  (∀ sm : SemLoc sig, sm.isScoped .tc = false → s.sem ((c.tc : Thread nD τ), sm) = 0)
    ∧ s.mem ((c : Thread nD τ).loc main_arg1) = m ((c : Thread nD τ).loc main_arg1)
    ∧ s.mem ((c : Thread nD τ).loc main_arg2) = m ((c : Thread nD τ).loc main_arg2)

omit [FloatOps F] in
/-- A buffer held whole is read at its contents. -/
theorem read_one (ℓ : Loc nD τ sig) (f : Buf (Elt F) ℓ) (s' : Phys nD τ sig (Elt F)) :
    iprop((ℓ ↦{fullShare} f) ∗ SI s') ⊢ (iprop(⌜s'.mem.mem ℓ = f⌝ ∗ SI s') : sProp 𝕄) := by
  have h := pointsTo_read_all (Ix := Unit) (Name := ℕ) (U := UU) (Lvl := ℕ) ({()} : Finset Unit) (fun _ => ℓ) (fun _ => f) s' fullShare
  rw [bigSep_singleton] at h
  iintro H
  ihave H := h $$ H
  icases H with ⟨%h, H⟩
  isplitr; · ipureintro; exact h () (Finset.mem_singleton_self _)
  iexact H

theorem read_end (c : Dev nD) (s' : Phys nD τ sig (Elt F)) :
    iprop((unscopedSems0 c ∗ arrs m c) ∗ emp ∗ SI s') ⊢ (|={Set.univ}=> iprop(⌜QY m c s'.mem⌝ ∗ SI s') : sProp 𝕄) := by
  unfold arrs
  iintro ⟨⟨Hu, HK, HV⟩, -, HSI⟩
  ihave H := (read_one (F := F) _ _ s') $$ [HK HSI]
  · isplitl [HK]; · iexact HK
    iexact HSI
  icases H with ⟨%h1, HSI⟩
  ihave H := (read_one (F := F) _ _ s') $$ [HV HSI]
  · isplitl [HV]; · iexact HV
    iexact HSI
  icases H with ⟨%h2, HSI⟩
  imod (Pipeline.unscopedSems0_read (X := unscopedSems0 c) (c := c) fupd_intro s') $$ [Hu HSI] with ⟨%h, HSI⟩
  · isplitl [Hu] <;> iassumption
  imodintro
  isplitr; · ipureintro; exact ⟨h, h1, h2⟩
  iexact HSI

/-- On the mesh of eight devices, for any float values, from any memory with zero counters: every weakly fair execution
    ends, each device's result array holds what was computed, the arguments are unchanged and every semaphore is at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := cell_waits m ρ)
    (G := G m ρ) (G' := G' m ρ) (u₀ := u₀)
    (hu₀ := by
      unfold u₀
      iintro Hu
      ihave H := (ownU_pair _ _) $$ Hu
      icases H with ⟨HP, HX⟩
      ihave HX := (own_pair_emb embR _ _) $$ HX
      icases HX with ⟨HX, -⟩
      imod (fund_ring m ρ) $$ HX with HG
      imodintro
      isplitl [HP] <;> iassumption)
    (hglob := glob m ρ)
    (hA := fun _ _ => rfl) (hpf := fun _ k => k.elim0)
    (X := start m ρ) (Y := fun c => iprop(unscopedSems0 c ∗ arrs m c)) (Z := fun _ => iprop(emp))
    (hX := start_intro m ρ) (hin := phi0_intro m ρ) (hout := phi1_exit m ρ)
    (QY := QY m) (hY := read_end m)
    (hQ := fun _ h hs => ⟨fun c => ⟨(h c).1, (h c).2.2.2⟩, sem_eq_zero hs fun c => (h c).2.2.1⟩)

/-! ## The arrays at the end -/

theorem finalA_q (c : Dev nD) : finalA m ρ c (0 : Fin 2) = m ((c : Thread nD τ).loc main_arg0) :=
  (dats (F := F) m ρ 0 c).arrAt_in (0 : Fin 2) rfl _

end Cert.KProof

end
-- ==== Proof.Results.lean ====
/-
# What the run leaves

The result array of every device is the quotient of the exchanged sums; the arguments are unchanged.  Read at the bits and
at the extended reals this gives the frames of the two kernels.
-/
module

public import proofs.«01_k».proof.Defs
public import proofs.«01_k».proof.Proof.Launch
public import proofs.«01_k».proof.Proof.Gen.Kernel
public import proofs.«01_k».proof.Proof.Gen.ReferenceIdeal
public import proofs.«01_k».proof.Proof.Gen.ReferenceIdeal.Run
public import Idealize.ShloMosaic.Lib.Pipeline.ValueKit
public import Idealize.ShloMosaic.Adequacy
public import Idealize.ShloMosaic.Init

@[expose] public section

set_option maxRecDepth 16384
set_option synthInstance.maxSize 4096

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Option XI → ℕ)

theorem finalA_out (c : Dev nD) : finalA m ρ c (1 : Fin 2) = outAt m ρ c := by
  refine (dats (F := F) m ρ 0 c).arrAt_eq_of_covers 1 _ (by decide +kernel) fun t hf y => ?_
  blk_simp
  have he : (win0_1.blk t).view.emb y = y := by
    fin_cases t
    funext a
    refine Fin.ext ?_
    exact Pipeline.Window.rect_emb_val_of_index_zero win0_1 _ a ((by decide : ∀ a, win0_1.index (0 : Fin 1) a = 0) a) y
  rw [he]
  rfl

/-- Every execution ends with the results in place, the arguments unchanged and the semaphores at zero. -/
theorem ends : θ_run defs (onTc (τ := τ) (main (F := F))) ⟨m, fun _ => 0, ρ⟩ (fun r => (∀ c : Dev nD,
    r.2.mem ((c.tc : Thread nD τ).loc main_v1) = outAt m ρ c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2))
    ∧ r.2.sem = fun _ => 0) :=
  (θ_run defs _ _).mono (fun r h => ⟨fun c => ⟨((h.1 c).1 1).trans (finalA_out m ρ c), ((h.1 c).1 0).trans (finalA_q m ρ c), (h.1 c).2⟩, h.2⟩)
    (run_main m ρ)

theorem frame_any :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => (h.1 c).2, h.2⟩) (ends m ρ)

/-- The kernel read at the bits is the same program. -/
theorem body_same : Cert.Kernel.cc0__fused_body (F := Bits) = Cert.KernelIdeal.cc0__fused_body (F := Bits) := rfl
theorem defs₀_same : Cert.Kernel.defs₀ (F := Bits) = Cert.KernelIdeal.defs₀ (F := Bits) := by
  unfold Cert.Kernel.defs₀ Cert.KernelIdeal.defs₀
  refine congrArg Defs.onTc ?_
  funext l a
  match l, a with
  | 0, (t, s) => rfl
  | ⟨n + 1, h⟩, _ => exact absurd h (Nat.not_lt.2 (Nat.le_add_left _ _))
theorem defs_same : Cert.Kernel.defs (F := Bits) = Cert.KernelIdeal.defs (F := Bits) := congrArg (Pipeline.defs _) defs₀_same

theorem frame_kernel : Cert.quiescent_Kernel := by
  intro m ρ _
  rw [defs_same]
  exact frame_any (F := Bits) m ρ

theorem frame_ideal : Cert.quiescent_KernelIdeal := fun m ρ _ => frame_any m ρ

instance preK : Cert.Pre_finite_qk_KernelIdeal.Facts := by constructor <;> decide
instance preR : Cert.Pre_finite_qk_ReferenceIdeal.Facts := by constructor <;> decide

theorem frame_ref (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m ρ)

end Cert.KProof

end
-- ==== Proof.Payload.lean ====
/-
# The computation's stages at an index, over the extended reals

Every stage of a device's computation, read at one index: the exponential of a score, the sums of a chunk, the sums of
an exchange, the quotient.
-/
module

public import proofs.«01_k».proof.Proof.Stages
public import Idealize.ShloMosaic.Lib.Pointwise

@[expose] public section

set_option maxRecDepth 16384

noncomputable section

namespace Cert.KProof

open Cert.KernelIdeal Cert.KernelIdeal.Gen
open Idealize.ShloMosaic Idealize.ShloMosaic.TcCoe

/-- The scale of the scores. -/
def scl : EReal := Ideal.ofBits .f32 0x3DB504F3#32

abbrev QI : Type := S32x8x128.Idx → EReal
abbrev KI : Type := S8x1024x128.Idx → EReal

theorem qP_at (q : S1x32x8x128.Idx → EReal) (i : Fin 32) (h : Fin 8) (d : Fin 128) :
    (qP (F := Ideal) q (ix3 i h d) : EReal) = q (ix4 0 i h d) * scl := by
  pointwise [qP, scl]

theorem kvP_at (k : S1x1024x8x128.Idx → EReal) (h : Fin 8) (n : Fin 1024) (d : Fin 128) :
    (kvP (F := Ideal) k (ix3 h n d) : EReal) = k (ix4 0 n h d) := by
  pointwise [kvP]

theorem eP_at (h : Fin 8) (q : QI) (k : KI) (i : Fin 32) (n : Fin 1024) :
    (eP (F := Ideal) h q k (ix2 i n) : EReal) = Ideal.exp (∑ d : Fin 128, q (ix3 i h d) * k (ix3 h n d)) := by
  pointwise [eP]

theorem lP_at (h : Fin 8) (q : QI) (k : KI) (i : Fin 32) :
    (lP (F := Ideal) h q k (ix2 i 0) : EReal) = ∑ n : Fin 1024, (eP (F := Ideal) h q k (ix2 i n) : EReal) := by
  pointwise [lP]

theorem nP_at (h : Fin 8) (q : QI) (k v : KI) (i : Fin 32) (d : Fin 128) :
    (nP (F := Ideal) h q k v (ix4 0 i 0 d) : EReal) = ∑ n : Fin 1024, (eP (F := Ideal) h q k (ix2 i n) : EReal) * v (ix3 h n d) := by
  pointwise [nP]

theorem dP_at (q : QI) (k : KI) (i : Fin 32) (h : Fin 8) :
    (dP (F := Ideal) q k (ix3 0 i h) : EReal) = lP (F := Ideal) h q k (ix2 i 0) := by
  pointwise [dP]
  fin_vals h with hk
  all_goals simp only [hk, Nat.reduceSub, Nat.reduceLT, ↓reduceDIte]
  all_goals exact congrArg (fun x => (lP (F := Ideal) x q k (ix2 i 0) : EReal)) (Fin.ext hk.symm)

theorem ad_num (v w : S1x32x8x128.Idx → EReal) : adN (F := Ideal) v (pkN (F := Ideal) w) = fun j => v j + w j := by
  funext j; idx_vars j
  obtain rfl : j0 = 0 := Subsingleton.elim _ _
  pointwise [adN, pkN]

theorem ad_den (v w : S1x32x8.Idx → EReal) : adL (F := Ideal) v (pkL (F := Ideal) w) = fun j => v j + w j := by
  funext j; idx_vars j
  obtain rfl : j0 = 0 := Subsingleton.elim _ _
  pointwise [adL, pkL]

theorem quP_at (v : S1x32x8x128.Idx → EReal) (l : S1x32x8.Idx → EReal) (i : Fin 32) (h : Fin 8) (d : Fin 128) :
    (quP (F := Ideal) v l (ix4 0 i h d) : EReal) = Ideal.div (v (ix4 0 i h d)) (l (ix3 0 i h)) := by
  pointwise [quP]

end Cert.KProof

end
-- ==== Proof.Softmax.lean ====
/-
# The quotient of two sums of exponentials, over the extended reals

The kernel divides the weighted sum of the exponentials by their sum.  The reference subtracts the largest score before
it exponentiates and divides each exponential before it weighs the values.  The two agree when the scores are real
numbers, whatever the values are.
-/
module

public import Idealize.ShloMosaic.Lib.Pointwise

@[expose] public section

set_option maxRecDepth 16384

noncomputable section

namespace Cert.KProof

open Idealize.ShloMosaic Idealize.ShloMosaic.TcCoe

theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A nonnegative real factor goes into a sum of any extended reals. -/
theorem sum_mul_coe {ι : Type} (s : Finset ι) (f : ι → EReal) (r : ℝ) (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, ← ih]
    exact EReal.right_distrib_of_nonneg_of_ne_top (by exact_mod_cast hr) (EReal.coe_ne_top r) _ _

/-- The largest of finitely many real numbers is one of them. -/
theorem max_real {n : ℕ} (S : Fin (n + 1) → ℝ) : ∃ M : ℝ, (Finset.univ.fold max (⊥ : EReal) fun j => (S j : EReal)) = (M : EReal) := by
  obtain ⟨i, -, h⟩ := Finset.exists_mem_eq_sup (Finset.univ : Finset (Fin (n + 1))) ⟨0, Finset.mem_univ _⟩ (fun j => (S j : EReal))
  exact ⟨S i, h⟩

theorem shift {ι : Type} [Fintype ι] [Nonempty ι] (S : ι → ℝ) (V : ι → EReal) (M : ℝ) :
    Ideal.div (∑ j, Ideal.exp (S j : EReal) * V j) (∑ j, Ideal.exp (S j : EReal))
      = ∑ j, V j * Ideal.div (Ideal.exp ((S j : EReal) - (M : EReal))) (∑ j, Ideal.exp ((S j : EReal) - (M : EReal))) := by
  have hZ : 0 < ∑ j, Real.exp (S j) := Finset.sum_pos (fun j _ => Real.exp_pos _) Finset.univ_nonempty
  have hY : ∑ j, Real.exp (S j - M) = (∑ j, Real.exp (S j)) * Real.exp (-M) := by
    rw [Finset.sum_mul]; exact Finset.sum_congr rfl fun j _ => by rw [sub_eq_add_neg, Real.exp_add]
  have hE := Real.exp_pos (-M)
  simp only [← EReal.coe_sub, Ideal.exp_coe, coe_sum]
  rw [Ideal.div_coe hZ.ne', sum_mul_coe _ _ _ (by positivity)]
  refine Finset.sum_congr rfl fun j _ => ?_
  rw [Ideal.div_coe (by rw [hY]; positivity), mul_comm _ (V j), mul_assoc, ← EReal.coe_mul, ← EReal.coe_mul, hY]
  congr 2
  rw [sub_eq_add_neg, Real.exp_add]
  field_simp

/-- The sum over eight chunks of 1024 rows is the sum over the 8192 rows. -/
theorem sum_chunks (f : Fin 8192 → EReal) :
    ∑ c : Fin 8, ∑ n : Fin 1024, f ⟨1024 * c.val + n.val, by omega⟩ = ∑ k, f k := by
  rw [← Fintype.sum_prod_type' (f := fun (c : Fin 8) (n : Fin 1024) => f ⟨1024 * c.val + n.val, by omega⟩)]
  refine Fintype.sum_equiv (finProdFinEquiv.trans (finCongr (by norm_num))) _ _ fun p => ?_
  congr 1
  exact Fin.ext (Nat.add_comm _ _)

end Cert.KProof

end
-- ==== Proof.Sums.lean ====
/-
# The kernel's result at an index

After three exchanges every device holds the sums over all eight devices' chunks, and device `c` has read the rows
`1024 * c` onwards of the whole keys and values.
-/
module

public import proofs.«01_k».proof.Proof.Results
public import proofs.«01_k».proof.Proof.Payload
public import proofs.«01_k».proof.Proof.Softmax
public import Idealize.ShloMosaic.Lib.Layout
public import Idealize.ShloMosaic.Lib.Pipeline.ValueKit

@[expose] public section

set_option maxRecDepth 16384

noncomputable section

namespace Cert.KProof

open Cert.KernelIdeal Cert.KernelIdeal.Gen
open Idealize.ShloMosaic Idealize.ShloMosaic.TcCoe

variable (m : (ℓ : Loc nD τ sig) → Buf (Elt Ideal) ℓ) (ρ : Dev nD → PrngReg)

/-! ## Three exchanges add up eight devices -/

def xr (c t : Dev nD) : Dev nD := ⟨c.val ^^^ t.val, by revert c t; decide⟩
theorem xr_xr (c t : Dev nD) : xr c (xr c t) = t := by revert c t; decide

theorem butterfly (f : ℕ → Dev nD → EReal) (h : ∀ (r : Fin 3) c, f (r.val + 1) c = f r.val c + f r.val (peer r c)) (c : Dev nD) :
    f 3 c = ∑ t : Dev nD, f 0 t := by
  have h0 : ∀ c, f 1 c = f 0 c + f 0 (peer 0 c) := h 0
  have h1 : ∀ c, f 2 c = f 1 c + f 1 (peer 1 c) := h 1
  have h2 : ∀ c, f 3 c = f 2 c + f 2 (peer 2 c) := h 2
  rw [← Equiv.sum_comp (⟨xr c, xr c, xr_xr c, xr_xr c⟩ : Dev nD ≃ Dev nD) (f 0)]
  show _ = ∑ t : Fin 8, f 0 (xr c t)
  rw [Fin.sum_univ_eight, h2, h1, h1, h0, h0, h0, h0]
  rw [show xr c 0 = c by revert c; decide, show peer 0 c = xr c 1 by revert c; decide,
    show peer 0 (peer 1 c) = xr c 3 by revert c; decide, show peer 1 c = xr c 2 by revert c; decide,
    show peer 0 (peer 2 c) = xr c 5 by revert c; decide, show peer 0 (peer 1 (peer 2 c)) = xr c 7 by revert c; decide,
    show peer 1 (peer 2 c) = xr c 6 by revert c; decide, show peer 2 c = xr c 4 by revert c; decide]
  simp only [add_assoc]

theorem AN_three (c : Dev nD) (b : Fin 4) (j : S1x32x8x128.Idx) :
    (AN m ρ 3 c b j : EReal) = ∑ t : Dev nD, (AN m ρ 0 t b j : EReal) :=
  butterfly (fun r c => (AN m ρ r c b j : EReal)) (fun r c => by
    show (AN m ρ (r.val + 1) c b j : EReal) = _
    rw [AN_succ]; exact congrFun (ad_num _ _) j) c

theorem AD_three (c : Dev nD) (b : Fin 4) (j : S1x32x8.Idx) :
    (AD m ρ 3 c b j : EReal) = ∑ t : Dev nD, (AD m ρ 0 t b j : EReal) :=
  butterfly (fun r c => (AD m ρ r c b j : EReal)) (fun r c => by
    show (AD m ρ (r.val + 1) c b j : EReal) = _
    rw [AD_succ]; exact congrFun (ad_den _ _) j) c

/-! ## What a device reads -/

theorem xstg_eq (c : Dev nD) : xstg m ρ c = m ((c : Thread nD τ).loc main_arg0) := by
  funext y
  have he : (win0_0.blk (0 : Fin 1)).view.emb y = y := by
    funext a
    refine Fin.ext ?_
    exact Pipeline.Window.rect_emb_val_of_index_zero win0_0 _ a ((by decide : ∀ a, win0_0.index (0 : Fin 1) a = 0) a) y
  exact congrArg (m ((c : Thread nD τ).loc main_arg0)) he

theorem qB_at (c : Dev nD) (b : Fin 4) (i : Fin 32) (h : Fin 8) (d : Fin 128) :
    (qB m ρ c b (ix4 0 i h d) : EReal) = m ((c : Thread nD τ).loc main_arg0) (ix4 b i h d) := by
  show xstg m ρ c ((rA b).emb (ix4 0 i h d)) = _
  rw [xstg_eq]
  refine congrArg (m ((c : Thread nD τ).loc main_arg0)) (funext fun a => Fin.ext ?_)
  refine (ValueKit.rect_emb_unit_val _ _ _ _ a).trans ?_
  fin_cases a
  · exact Nat.add_zero _
  · exact Nat.zero_add _
  · exact Nat.zero_add _
  · exact Nat.zero_add _

theorem lin_eq (c : Dev nD) : Layout.meshLin [2, 2, 2] c.val [0] = c.val / 4 := by revert c; decide

/-- Where a device's chunk lies in the whole arrays. -/
theorem chunk_idx (c : Dev nD) (b : Fin 4) (n : Fin 1024) (h : Fin 8) (d : Fin 128)
    (hT : Layout.TilesN (⟨4, ![4, 4096, 8, 128]⟩ : Shape) ⟨4, ![4, 8192, 8, 128]⟩ (fun a => Layout.cutSize [2, 2, 2] ((![[], [0], [], []] : Fin 4 → List Nat) a)))
    (hm) :
    hT.idx (Layout.meshBlock [2, 2, 2] ![[], [0], [], []] c hm) ((rKV c b).emb (ix4 0 n h d))
      = ix4 b ⟨1024 * c.val + n.val, by have := c.isLt; have : nD = 8 := rfl; omega⟩ h d := by
  have e := fun a => ValueKit.rect_emb_unit_val (s := S4x4096x8x128) (offB c b) S1x1024x8x128.size (offB_inb c b) (ix4 0 n h d) a
  funext a
  refine Fin.ext ((Layout.TilesN.idx_val _ _ _ a).trans ?_)
  fin_cases a
  · refine (congrArg₂ (· + ·) rfl (e 0)).trans ?_
    show 0 * 4 + (b.val + 0) = b.val
    omega
  · refine (congrArg₂ (· + ·) rfl (e 1)).trans ?_
    show Layout.meshLin [2, 2, 2] c.val [0] * 4096 + ((2048 * ((c.val / 2) % 2) + 1024 * (c.val % 2)) + n.val) = 1024 * c.val + n.val
    rw [lin_eq]
    have := c.isLt
    have : nD = 8 := rfl
    omega
  · refine (congrArg₂ (· + ·) rfl (e 2)).trans ?_
    show 0 * 8 + (0 + h.val) = h.val
    omega
  · refine (congrArg₂ (· + ·) rfl (e 3)).trans ?_
    show 0 * 128 + (0 + d.val) = d.val
    omega

/-! ## The result -/

/-- The whole keys or values. -/
abbrev WI : Type := (⟨4, ![4, 8192, 8, 128]⟩ : Shape).Idx → EReal
abbrev RI : Type := (⟨4, ![4, 32, 8, 128]⟩ : Shape).Idx → EReal

/-- A device's block of the whole keys or values. -/
abbrev wcut (X : WI) (c : Dev nD) : S4x4096x8x128.Idx → EReal :=
  Layout.blockN ⟨4, ![4, 4096, 8, 128]⟩ ⟨4, ![4, 8192, 8, 128]⟩ (Layout.meshBlock [2, 2, 2] ![[], [0], [], []] c) X

/-- The score of a query and a key row, each query entry scaled first. -/
def scoreK (Q : RI) (X : WI) (b : Fin 4) (i : Fin 32) (h : Fin 8) (k : Fin 8192) : EReal :=
  ∑ d : Fin 128, Q (ix4 b i h d) * scl * X (ix4 b k h d)

variable {m}
variable {Q : RI} {X Y : WI}
variable (hQ : ∀ c : Dev nD, m ((c : Thread nD τ).loc main_arg0) = Q)
variable (hX : ∀ c : Dev nD, m ((c : Thread nD τ).loc main_arg1) = wcut X c)
variable (hY : ∀ c : Dev nD, m ((c : Thread nD τ).loc main_arg2) = wcut Y c)

theorem chunk_lt (t : Dev nD) (n : Fin 1024) : 1024 * t.val + n.val < 8192 := by
  have := t.isLt; have : nD = 8 := rfl; omega

include hX in
theorem kB_at (c : Dev nD) (b : Fin 4) (n : Fin 1024) (h : Fin 8) (d : Fin 128) :
    (kB m c b (ix4 0 n h d) : EReal) = X (ix4 b ⟨1024 * c.val + n.val, chunk_lt c n⟩ h d) := by
  show m ((c : Thread nD τ).loc main_arg1) ((rKV c b).emb (ix4 0 n h d)) = _
  rw [hX]
  exact congrArg X (chunk_idx c b n h d _ _)

include hY in
theorem vB_at (c : Dev nD) (b : Fin 4) (n : Fin 1024) (h : Fin 8) (d : Fin 128) :
    (vB m c b (ix4 0 n h d) : EReal) = Y (ix4 b ⟨1024 * c.val + n.val, chunk_lt c n⟩ h d) := by
  show m ((c : Thread nD τ).loc main_arg2) ((rKV c b).emb (ix4 0 n h d)) = _
  rw [hY]
  exact congrArg Y (chunk_idx c b n h d _ _)

include hQ hX in
theorem exp_at (t : Dev nD) (b : Fin 4) (i : Fin 32) (h : Fin 8) (n : Fin 1024) :
    (eP (F := Ideal) h (qP (qB m ρ t b)) (kvP (kB m t b)) (ix2 i n) : EReal)
      = Ideal.exp (scoreK Q X b i h ⟨1024 * t.val + n.val, chunk_lt t n⟩) := by
  rw [eP_at]
  refine congrArg Ideal.exp (Finset.sum_congr rfl fun d _ => ?_)
  rw [qP_at, kvP_at, qB_at, kB_at hX, hQ]

include hQ hX hY in
theorem num_at (c : Dev nD) (b : Fin 4) (i : Fin 32) (h : Fin 8) (d : Fin 128) :
    (AN m ρ 3 c b (ix4 0 i h d) : EReal) = ∑ k, Ideal.exp (scoreK Q X b i h k) * Y (ix4 b k h d) := by
  rw [AN_three, ← sum_chunks]
  refine Finset.sum_congr rfl fun t _ => ?_
  show (nP (F := Ideal) h (qP (qB m ρ t b)) (kvP (kB m t b)) (kvP (vB m t b)) (ix4 0 i 0 d) : EReal) = _
  rw [nP_at]
  refine Finset.sum_congr rfl fun n _ => ?_
  rw [exp_at ρ hQ hX, kvP_at, vB_at hY]

include hQ hX in
theorem den_at (c : Dev nD) (b : Fin 4) (i : Fin 32) (h : Fin 8) :
    (AD m ρ 3 c b (ix3 0 i h) : EReal) = ∑ k, Ideal.exp (scoreK Q X b i h k) := by
  rw [AD_three, ← sum_chunks]
  refine Finset.sum_congr rfl fun t _ => ?_
  show (dP (F := Ideal) (qP (qB m ρ t b)) (kvP (kB m t b)) (ix3 0 i h) : EReal) = _
  rw [dP_at, lP_at]
  exact Finset.sum_congr rfl fun n _ => exp_at ρ hQ hX t b i h n

include hQ hX hY in
/-- A device's result: the weighted sum of the exponentials over their sum. -/
theorem outAt_at (c : Dev nD) (b : Fin 4) (i : Fin 32) (h : Fin 8) (d : Fin 128) :
    (outAt m ρ c (ix4 b i h d) : EReal)
      = Ideal.div (∑ k, Ideal.exp (scoreK Q X b i h k) * Y (ix4 b k h d)) (∑ k, Ideal.exp (scoreK Q X b i h k)) := by
  show (quP (F := Ideal) (AN m ρ 3 c b) (AD m ρ 3 c b) (ix4 0 i h d) : EReal) = _
  rw [quP_at, num_at ρ hQ hX hY, den_at ρ hQ hX]

end Cert.KProof

end
-- ==== Proof.RefValue.lean ====
/-
# The reference's result at an index
-/
module

public import proofs.«01_k».proof.ReferenceIdeal
public import proofs.«01_k».proof.Proof.Gen.ReferenceIdeal
public import proofs.«01_k».proof.Proof.Payload
public import proofs.«01_k».proof.Proof.Softmax

@[expose] public section

set_option maxRecDepth 16384

noncomputable section

namespace Cert.KProof

open Idealize.ShloMosaic Idealize.ShloMosaic.TcCoe

section Terms
open Cert.ReferenceIdeal Cert.ReferenceIdeal.Gen

abbrev QR : Type := S4x32x8x128.Idx → EReal
abbrev KR : Type := S4x8192x8x128.Idx → EReal

/-- The scaled scores. -/
def scoreT (Q : QR) (X : KR) : FVec Ideal S4x8x32x8192 .f32 :=
  mulf (Host.dotGeneral (F := Ideal) (φ₁ := .f32) (φ₂ := .f32) dot_S4x32x8x128_S4x8192x8x128_S4x8x32x8192_3_3_1_1_02_02 none Q X) (broadcastInDim S4x8x32x8192 ![] bcast_S_S4x8x32x8192 (constant S_ .f32 0x3DB504F3#32))
/-- The exponentials, the largest score subtracted. -/
def expT (S : FVec Ideal S4x8x32x8192 .f32) : FVec Ideal S4x8x32x8192 .f32 :=
  Host.exp (subf S (broadcastInDim S4x8x32x8192 ![0, 1, 2, 3] bcast_S4x8x32x1_S4x8x32x8192_0_1_2_3 (broadcastInDim S4x8x32x1 ![0, 1, 2] bcast_S4x8x32_S4x8x32x1_0_1_2 (Host.reduce FloatOps.maximumf S (constant S_ .f32 0xFF800000#32) reducesTo_S4x8x32x8192_S4x8x32_d3 h_S_))))
/-- The weighted values. -/
def weighT (Y : KR) (P : FVec Ideal S4x8x32x8192 .f32) : FVec Ideal S4x32x8x128 .f32 :=
  transpose S4x32x8x128 [0, 3, 1, 2] (Host.dotGeneral (F := Ideal) (φ₁ := .f32) (φ₂ := .f32) dot_S4x8192x8x128_S4x8x32x8192_S4x8x128x32_1_3_3_2_02_01 none Y (Host.divf P (broadcastInDim S4x8x32x8192 ![0, 1, 2, 3] bcast_S4x8x32x1_S4x8x32x8192_0_1_2_3 (broadcastInDim S4x8x32x1 ![0, 1, 2] bcast_S4x8x32_S4x8x32x1_0_1_2 (Host.reduceAdd P (constant S_ .f32 0x00000000#32) reducesTo_S4x8x32x8192_S4x8x32_d3 h_S_))))) transposes_S4x8x128x32_S4x32x8x128_0_3_1_2

theorem scoreT_at (Q : QR) (X : KR) (b : Fin 4) (h : Fin 8) (i : Fin 32) (k : Fin 8192) :
    (scoreT Q X (ix4 b h i k) : EReal) = (∑ d : Fin 128, Q (ix4 b i h d) * X (ix4 b k h d)) * scl := by
  pointwise [scoreT, scl]

theorem expT_at (S : S4x8x32x8192.Idx → EReal) (b : Fin 4) (h : Fin 8) (i : Fin 32) (k : Fin 8192) :
    (expT S (ix4 b h i k) : EReal) = Ideal.exp (S (ix4 b h i k) - Finset.univ.fold max (Ideal.ofBits .f32 0xFF800000#32) fun k => S (ix4 b h i k)) := by
  pointwise [expT]

theorem weighT_at (Y : KR) (P : S4x8x32x8192.Idx → EReal) (b : Fin 4) (i : Fin 32) (h : Fin 8) (d : Fin 128) :
    (weighT Y P (ix4 b i h d) : EReal) = ∑ k, Y (ix4 b k h d) * Ideal.div (P (ix4 b h i k)) (∑ k, P (ix4 b h i k)) := by
  pointwise [weighT]

theorem low_eq : Ideal.ofBits .f32 0xFF800000#32 = ⊥ := by simp [Ideal.ofBits, Ideal.ieee]
theorem high_eq : Ideal.ofBits .f32 0x7F800000#32 = ⊤ := by simp [Ideal.ofBits, Ideal.ieee]
theorem scl_real : ∃ s : ℝ, scl = (s : EReal) := by
  unfold scl Ideal.ofBits Ideal.ieee
  simp only []
  rw [if_neg (by decide), if_neg (by decide)]
  exact ⟨_, rfl⟩

/-- The reference's result. -/
def refT (Q : QR) (X Y : KR) : FVec Ideal S4x32x8x128 .f32 := weighT Y (expT (scoreT Q X))

end Terms

/-- The reference's result, for finite queries and keys: the quotient of the two sums. -/
theorem refT_at {Q : QR} {X : KR} (Y : KR) (hQ : ∀ j, ∃ r : ℝ, Q j = (r : EReal)) (hX : ∀ j, ∃ r : ℝ, X j = (r : EReal))
    (b : Fin 4) (i : Fin 32) (h : Fin 8) (d : Fin 128) :
    (refT Q X Y (ix4 b i h d) : EReal)
      = Ideal.div (∑ k, Ideal.exp (∑ d : Fin 128, Q (ix4 b i h d) * scl * X (ix4 b k h d)) * Y (ix4 b k h d))
          (∑ k : Fin 8192, Ideal.exp (∑ d : Fin 128, Q (ix4 b i h d) * scl * X (ix4 b k h d))) := by
  obtain ⟨s, hs⟩ := scl_real
  choose q hq using hQ
  choose x hx using hX
  have hS : ∀ k : Fin 8192, (scoreT Q X (ix4 b h i k) : EReal) = ((∑ d : Fin 128, q (ix4 b i h d) * s * x (ix4 b k h d) : ℝ) : EReal) := fun k => by
    rw [scoreT_at, hs]
    simp only [hq, hx, ← EReal.coe_mul, coe_sum]
    rw [Finset.sum_mul]
    exact congrArg _ (Finset.sum_congr rfl fun d _ => by ring)
  have hK : ∀ k : Fin 8192, ∑ d : Fin 128, Q (ix4 b i h d) * scl * X (ix4 b k h d) = ((∑ d : Fin 128, q (ix4 b i h d) * s * x (ix4 b k h d) : ℝ) : EReal) := fun k => by
    simp only [hs, hq, hx, ← EReal.coe_mul, coe_sum]
  obtain ⟨M, hM⟩ := max_real (n := 8191) fun k => ∑ d : Fin 128, q (ix4 b i h d) * s * x (ix4 b k h d)
  have hE : ∀ k : Fin 8192, (expT (scoreT Q X) (ix4 b h i k) : EReal) = Ideal.exp (((∑ d : Fin 128, q (ix4 b i h d) * s * x (ix4 b k h d) : ℝ) : EReal) - (M : EReal)) := fun k => by
    rw [expT_at, low_eq]
    simp only [hS]
    rw [← hM]
  unfold refT
  rw [weighT_at]
  simp only [hE, hK]
  exact (shift _ _ M).symm

end Cert.KProof

end
-- ==== Proof.Agree.lean ====
/-
# The kernel's result is the reference's

For finite queries and keys every device ends with the reference's result.
-/
module

public import proofs.«01_k».proof.Defs
public import proofs.«01_k».proof.Proof.Sums
public import proofs.«01_k».proof.Proof.RefValue
public import proofs.«01_k».proof.Proof.Gen.ReferenceIdeal.Run
public import Idealize.ShloMosaic.Lib.ReduceAll

@[expose] public section

set_option maxRecDepth 16384

noncomputable section

namespace Cert.KProof

open Idealize.ShloMosaic Idealize.ShloMosaic.TcCoe

instance : Subsingleton Cert.Pre_finite_qk_KernelIdeal.S_.Idx := ⟨fun a b => funext fun i => i.elim0⟩

theorem ofBool_one (b : Bool) : BitVec.ofBool b = 1#1 ↔ b = true := by cases b <;> decide

/-- An extended real whose absolute value is below infinity is a real number. -/
theorem real_of_lt {x : EReal} (h : FloatOps.absf (F := Ideal) (φ := .f32) x < ⊤) : ∃ r : ℝ, x = (r : EReal) := by
  induction x using EReal.rec with
  | bot => exact absurd h (by simp [FloatOps.absf])
  | top => exact absurd h (by simp [FloatOps.absf])
  | coe r => exact ⟨r, rfl⟩

open Cert.Pre_finite_qk_KernelIdeal Cert.Pre_finite_qk_KernelIdeal.Facts in
/-- What the precondition says of one device: its queries and keys are real numbers. -/
theorem pre_real (q : S4x32x8x128.Idx → EReal) (k v : S4x4096x8x128.Idx → EReal)
    (h : Cert.Pre_finite_qk_KernelIdeal.fn (F := Ideal) q k v = fun _ => 1#1) :
    (∀ j, ∃ r : ℝ, q j = (r : EReal)) ∧ (∀ j, ∃ r : ℝ, k j = (r : EReal)) := by
  have h0 := congrFun h ix0
  dsimp only [Cert.Pre_finite_qk_KernelIdeal.fn] at h0
  obtain ⟨h1, h2⟩ := IntOp.andi_eq_one.1 h0
  refine ⟨fun j => ?_, fun j => ?_⟩
  · have h3 := Host.reduce_andi_all _ _ _ _ _ h1 j
    pointwise at h3
    rw [high_eq] at h3
    exact real_of_lt (decide_eq_true_iff.1 ((Cert.KProof.ofBool_one _).1 h3))
  · have h3 := Host.reduce_andi_all _ _ _ _ _ h2 j
    pointwise at h3
    rw [high_eq] at h3
    exact real_of_lt (decide_eq_true_iff.1 ((Cert.KProof.ofBool_one _).1 h3))

section Final
open Cert.KernelIdeal Cert.KernelIdeal.Gen

theorem whole_real {X : WI} (h : ∀ (c : Dev nD) j, ∃ r : ℝ, wcut X c j = (r : EReal)) (j : (⟨4, ![4, 8192, 8, 128]⟩ : Shape).Idx) :
    ∃ r : ℝ, X j = (r : EReal) := by
  idx_vars j
  obtain ⟨r, hr⟩ := h ⟨j1.val / 1024, by have : nD = 8 := rfl; omega⟩ ((rKV ⟨j1.val / 1024, by have : nD = 8 := rfl; omega⟩ j0).emb (ix4 0 ⟨j1.val % 1024, by omega⟩ j2 j3))
  refine ⟨r, Eq.trans (congrArg X ?_) hr⟩
  refine Eq.trans ?_ (chunk_idx _ j0 _ j2 j3 _ _).symm
  exact congrArg (fun a => ix4 j0 a j2 j3) (Fin.ext (Nat.div_add_mod j1.val 1024).symm)

/-- Every device's result is the reference's. -/
theorem outAt_eq {m : (ℓ : Loc nD τ sig) → Buf (Elt Ideal) ℓ} (ρ : Dev nD → PrngReg) {Q : RI} {X Y : WI}
    (hQ : ∀ c : Dev nD, m ((c : Thread nD τ).loc main_arg0) = Q)
    (hX : ∀ c : Dev nD, m ((c : Thread nD τ).loc main_arg1) = wcut X c)
    (hY : ∀ c : Dev nD, m ((c : Thread nD τ).loc main_arg2) = wcut Y c)
    (fQ : ∀ j, ∃ r : ℝ, Q j = (r : EReal)) (fX : ∀ j, ∃ r : ℝ, X j = (r : EReal)) (c : Dev nD) :
    (outAt m ρ c : RI) = refT Q X Y := by
  funext j
  idx_vars j
  exact (outAt_at ρ hQ hX hY c j0 j1 j2 j3).trans (refT_at Y fQ fX j0 j1 j2 j3).symm

end Final

theorem algebraic : Cert.algebraic_KernelIdeal_ReferenceIdeal_pre_finite_qk_KernelIdeal := by
  intro m g m' g' hP hA
  have hQ := fun c => (hA c).1
  have hX := fun c => (hA c).2.1
  have hY := fun c => (hA c).2.2
  have hR := fun c => pre_real _ _ _ (hP c)
  have hO := outAt_eq g hQ hX hY (fun j => by rw [← hQ 0]; exact (hR 0).1 j)
    (whole_real fun c j => ((hR c).2 j).imp fun r hr => (congrFun (hX c) j).symm.trans hr)
  refine ⟨refT (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2)), ?_, ?_⟩
  · exact (θ_run Cert.KernelIdeal.defs _ _).mono (fun r h c => ⟨(h.1 c).1.trans (hO c), (h.1 c).2⟩) (ends (F := Ideal) m g)
  · exact (θ_run Cert.ReferenceIdeal.defs _ _).mono (fun r h => h 0) (Cert.ReferenceIdeal.Value.run (F := Ideal) m' g')

end Cert.KProof

end
-- ==== Proof.lean ====
/- The claims about the kernel: its frame, the frames of its idealization and of the reference, and that the idealized kernel computes the reference. -/
module

public import proofs.«01_k».proof.Defs
public import proofs.«01_k».proof.Proof.Results
public import proofs.«01_k».proof.Proof.Agree

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.KProof.preK, Cert.KProof.preR,
  Cert.KProof.frame_kernel, Cert.KProof.frame_ideal, fun m ρ _ => Cert.KProof.frame_any m ρ,
  fun m ρ _ => Cert.KProof.frame_ref m ρ, fun m ρ _ => Cert.KProof.frame_ref m ρ, trivial, Cert.KProof.algebraic⟩

end Cert.Proof

end
